-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S8x19x512x512 : Shape := ⟨4, ![8, 19, 512, 512]⟩
abbrev S8x512x512 : Shape := ⟨3, ![8, 512, 512]⟩
abbrev S_ : Shape := ⟨0, ![]⟩

class Facts : Prop where
  bcast_S_S8x512x512 : S_.BroadcastsInDim S8x512x512 (![] : Fin 0 → Fin S8x512x512.rank)

variable [Facts]

def fn {F : FTy → Type} [FloatOps F] (main_arg0 : FVec F S8x19x512x512 .f32) (main_arg1 : IVec S8x512x512 32) : IVec S8x512x512 1 :=
  let main_c : IVec S_ 32 := constantI S_ 32 0#32
  let main_v0 : IVec S8x512x512 32 := broadcastInDim S8x512x512 ![] bcast_S_S8x512x512 main_c
  let main_v1 : IVec S8x512x512 1 := cmpi .sge main_arg1 main_v0
  let main_c_0 : IVec S_ 32 := constantI S_ 32 19#32
  let main_v2 : IVec S8x512x512 32 := broadcastInDim S8x512x512 ![] bcast_S_S8x512x512 main_c_0
  let main_v3 : IVec S8x512x512 1 := cmpi .slt main_arg1 main_v2
  let main_v4 : IVec S8x512x512 1 := andi main_v1 main_v3
  main_v4
-- ==== Kernel.lean ====
abbrev S8x19x512x512 : Shape := ⟨4, ![8, 19, 512, 512]⟩
abbrev S8x512x512 : Shape := ⟨3, ![8, 512, 512]⟩
abbrev S1x19x256x512 : Shape := ⟨4, ![1, 19, 256, 512]⟩
abbrev S1x256x512 : Shape := ⟨3, ![1, 256, 512]⟩
abbrev S19x256x512 : Shape := ⟨3, ![19, 256, 512]⟩
abbrev S256x512 : Shape := ⟨2, ![256, 512]⟩
abbrev S1536x128 : Shape := ⟨2, ![1536, 128]⟩
abbrev S128x512 : Shape := ⟨2, ![128, 512]⟩
abbrev S48x128 : Shape := ⟨2, ![48, 128]⟩
abbrev S24576 : Shape := ⟨1, ![24576]⟩
abbrev S_ : Shape := ⟨0, ![]⟩
abbrev S1x128x512 : Shape := ⟨3, ![1, 128, 512]⟩
abbrev S16 : Shape := ⟨1, ![16]⟩
abbrev S1x16 : Shape := ⟨2, ![1, 16]⟩
abbrev S1x1 : Shape := ⟨2, ![1, 1]⟩
abbrev S32x48x128 : Shape := ⟨3, ![32, 48, 128]⟩
abbrev S1x48x128 : Shape := ⟨3, ![1, 48, 128]⟩
abbrev S1 : Shape := ⟨1, ![1]⟩
abbrev S1x1x1 : Shape := ⟨3, ![1, 1, 1]⟩
abbrev S32x384x16 : Shape := ⟨3, ![32, 384, 16]⟩
abbrev S384 : Shape := ⟨1, ![384]⟩
abbrev S361 : Shape := ⟨1, ![361]⟩
abbrev S19x19 : Shape := ⟨2, ![19, 19]⟩

abbrev nBuf : Table → Nat
  | .hbm => 11
  | .local .tc .vmem => 8
  | .local .scVector .vmem => 3
  | _ => 0

abbrev bufTy : (tb : Table) → Fin (nBuf tb) → BufTy
  | .hbm, ⟨0, _⟩ => ⟨S8x19x512x512, .f32⟩
  | .hbm, ⟨1, _⟩ => ⟨S8x512x512, .i32⟩
  | .hbm, ⟨2, _⟩ => ⟨S8x512x512, .i32⟩
  | .hbm, ⟨3, _⟩ => ⟨S1536x128, .i32⟩
  | .hbm, ⟨4, _⟩ => ⟨S1x1, .f32⟩
  | .hbm, ⟨5, _⟩ => ⟨S32x384x16, .i32⟩
  | .hbm, ⟨6, _⟩ => ⟨S_, .i32⟩
  | .hbm, ⟨7, _⟩ => ⟨S384, .i32⟩
  | .hbm, ⟨8, _⟩ => ⟨S_, .f32⟩
  | .hbm, ⟨9, _⟩ => ⟨S361, .i32⟩
  | .hbm, ⟨10, _⟩ => ⟨S19x19, .i32⟩
  | .local .tc .vmem, ⟨0, _⟩ => ⟨S1x19x256x512, .f32⟩
  | .local .tc .vmem, ⟨1, _⟩ => ⟨S1x19x256x512, .f32⟩
  | .local .tc .vmem, ⟨2, _⟩ => ⟨S1x256x512, .i32⟩
  | .local .tc .vmem, ⟨3, _⟩ => ⟨S1x256x512, .i32⟩
  | .local .tc .vmem, ⟨4, _⟩ => ⟨S1x256x512, .i32⟩
  | .local .tc .vmem, ⟨5, _⟩ => ⟨S1x256x512, .i32⟩
  | .local .tc .vmem, ⟨6, _⟩ => ⟨S1536x128, .i32⟩
  | .local .tc .vmem, ⟨7, _⟩ => ⟨S1x1, .f32⟩
  | .local .scVector .vmem, ⟨0, _⟩ => ⟨S128x512, .i32⟩
  | .local .scVector .vmem, ⟨1, _⟩ => ⟨S48x128, .i32⟩
  | .local .scVector .vmem, ⟨2, _⟩ => ⟨S24576, .i32⟩
  | _, _ => ⟨S8x19x512x512, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v0_scv : Ref sig .scVector := ⟨.hbm, 2, rfl⟩
abbrev main_v1_scv : Ref sig .scVector := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc2_stg0_0 : Ref sig .tc := ⟨.vmem, 6, rfl⟩
abbrev cc2_stg1_0 : Ref sig .tc := ⟨.vmem, 7, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc2_sem0_0 : DmaSem sig := 8
abbrev cc2_sem1_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x19x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 16], ![false, false]⟩

def k1_off1 (i : grid1.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c4_i32 : BitVec 32 := 4#32
  let c0_i32_1 : BitVec 32 := 0#32
  let v8 : BitVec 1 := Scalar.cmpi .sgt c4_i32 c0_i32_1
  let v9 : BitVec 32 := Scalar.extui v8
  let c0_i32_2 : BitVec 32 := 0#32
  let v10 : BitVec 1 := Scalar.cmpi .slt c4_i32 c0_i32_2
  let v11 : BitVec 32 := Scalar.extui v10
  let v12 : BitVec 32 := Scalar.subi v9 v11
  let v13 : BitVec 1 := Scalar.cmpi .ne v7 v12
  let v14 : BitVec 32 := Scalar.remsi v1 c4_i32
  let c0_i32_3 : BitVec 32 := 0#32
  let v15 : BitVec 1 := Scalar.cmpi .ne v14 c0_i32_3
  let v16 : BitVec 1 := Scalar.andi v13 v15
  let v2 : BitVec 32 := Scalar.divsi v1 c4_i32
  let c1_i32 : BitVec 32 := 1#32
  let v17 : BitVec 32 := Scalar.subi v2 c1_i32
  let v18 : BitVec 32 := Scalar.select v16 v17 v2
  let c4_i32_4 : BitVec 32 := 4#32
  let c0_i32_5 : BitVec 32 := 0#32
  let v19 : BitVec 1 := Scalar.cmpi .eq c4_i32_4 c0_i32_5
  let c1_i32_6 : BitVec 32 := 1#32
  let v20 : BitVec 32 := Scalar.select v19 c1_i32_6 c4_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_10 : BitVec 32 := 0#32
  ![v18.toNat, v29.toNat, 0]
@[reducible] def k1_t1_loop : Scf.Loop 32 :=
  let c0_i32_13 : BitVec 32 := 0#32
  let c1536_i32 : BitVec 32 := 1536#32
  let v35 : BitVec 32 := Scalar.addi c0_i32_13 c1536_i32
  let c1_i32_14 : BitVec 32 := 1#32
  ⟨c0_i32_13, v35, c1_i32_14⟩
def k1_off2 (k1_t1 : Fin k1_t1_loop.trips) : Fin 1 → Nat :=
  let c0_i32_28 : BitVec 32 := 0#32
  let c0_i32_13 : BitVec 32 := 0#32
  let c1_i32_14 : BitVec 32 := 1#32
  let arg8 : BitVec 32 := Scf.iv c0_i32_13 c1_i32_14 k1_t1
  let c1_i32_27 : BitVec 32 := 1#32
  let v53 : BitVec 32 := Scalar.muli arg8 c1_i32_27
  let v54 : BitVec 32 := Scalar.addi c0_i32_28 v53
  let c16_i32 : BitVec 32 := 16#32
  let v55 : BitVec 32 := Scalar.muli v54 c16_i32
  let v56 : Index := Scalar.indexCast v55
  ![v56.toNat]
@[reducible] def k1_t2_loop : Scf.Loop 32 :=
  let c0_i32_20 : BitVec 32 := 0#32
  let c128_i32_21 : BitVec 32 := 128#32
  let v50 : BitVec 32 := Scalar.addi c0_i32_20 c128_i32_21
  let c1_i32_22 : BitVec 32 := 1#32
  ⟨c0_i32_20, v50, c1_i32_22⟩
def k1_off3 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v55 : Index := Scalar.indexCast v54
  let c0 : Index := 0#32
  ![v55.toNat, 0]

def k1_chk1 (v57 : IVec S16 32) : Prop :=
  (∀ a x, ((![v57] : Fin 1 → IVec S16 32) a x).toNat < S24576.size a)
theorem k1_idx1_inb : ∀ (v57 : IVec S16 32) (k1_hw1 : k1_chk1 v57), ∀ a x, ((![v57] : Fin 1 → IVec S16 32) a x).toNat < S24576.size a := fun v57 k1_hw1 => k1_hw1
def k1_off4 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v58 : Index := Scalar.indexCast v54
  let c16 : Index := 16#32
  ![v58.toNat, 16]

def k1_chk2 (v60 : IVec S16 32) : Prop :=
  (∀ a x, ((![v60] : Fin 1 → IVec S16 32) a x).toNat < S24576.size a)
theorem k1_idx2_inb : ∀ (v60 : IVec S16 32) (k1_hw2 : k1_chk2 v60), ∀ a x, ((![v60] : Fin 1 → IVec S16 32) a x).toNat < S24576.size a := fun v60 k1_hw2 => k1_hw2
def k1_off5 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v61 : Index := Scalar.indexCast v54
  let c32 : Index := 32#32
  ![v61.toNat, 32]

def k1_chk3 (v63 : IVec S16 32) : Prop :=
  (∀ a x, ((![v63] : Fin 1 → IVec S16 32) a x).toNat < S24576.size a)
theorem k1_idx3_inb : ∀ (v63 : IVec S16 32) (k1_hw3 : k1_chk3 v63), ∀ a x, ((![v63] : Fin 1 → IVec S16 32) a x).toNat < S24576.size a := fun v63 k1_hw3 => k1_hw3
def k1_off6 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v64 : Index := Scalar.indexCast v54
  let c48 : Index := 48#32
  ![v64.toNat, 48]

def k1_chk4 (v66 : IVec S16 32) : Prop :=
  (∀ a x, ((![v66] : Fin 1 → IVec S16 32) a x).toNat < S24576.size a)
theorem k1_idx4_inb : ∀ (v66 : IVec S16 32) (k1_hw4 : k1_chk4 v66), ∀ a x, ((![v66] : Fin 1 → IVec S16 32) a x).toNat < S24576.size a := fun v66 k1_hw4 => k1_hw4
def k1_off7 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v67 : Index := Scalar.indexCast v54
  let c64 : Index := 64#32
  ![v67.toNat, 64]

def k1_chk5 (v69 : IVec S16 32) : Prop :=
  (∀ a x, ((![v69] : Fin 1 → IVec S16 32) a x).toNat < S24576.size a)
theorem k1_idx5_inb : ∀ (v69 : IVec S16 32) (k1_hw5 : k1_chk5 v69), ∀ a x, ((![v69] : Fin 1 → IVec S16 32) a x).toNat < S24576.size a := fun v69 k1_hw5 => k1_hw5
def k1_off8 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v70 : Index := Scalar.indexCast v54
  let c80 : Index := 80#32
  ![v70.toNat, 80]

def k1_chk6 (v72 : IVec S16 32) : Prop :=
  (∀ a x, ((![v72] : Fin 1 → IVec S16 32) a x).toNat < S24576.size a)
theorem k1_idx6_inb : ∀ (v72 : IVec S16 32) (k1_hw6 : k1_chk6 v72), ∀ a x, ((![v72] : Fin 1 → IVec S16 32) a x).toNat < S24576.size a := fun v72 k1_hw6 => k1_hw6
def k1_off9 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v73 : Index := Scalar.indexCast v54
  let c96 : Index := 96#32
  ![v73.toNat, 96]

def k1_chk7 (v75 : IVec S16 32) : Prop :=
  (∀ a x, ((![v75] : Fin 1 → IVec S16 32) a x).toNat < S24576.size a)
theorem k1_idx7_inb : ∀ (v75 : IVec S16 32) (k1_hw7 : k1_chk7 v75), ∀ a x, ((![v75] : Fin 1 → IVec S16 32) a x).toNat < S24576.size a := fun v75 k1_hw7 => k1_hw7
def k1_off10 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v76 : Index := Scalar.indexCast v54
  let c112 : Index := 112#32
  ![v76.toNat, 112]

def k1_chk8 (v78 : IVec S16 32) : Prop :=
  (∀ a x, ((![v78] : Fin 1 → IVec S16 32) a x).toNat < S24576.size a)
theorem k1_idx8_inb : ∀ (v78 : IVec S16 32) (k1_hw8 : k1_chk8 v78), ∀ a x, ((![v78] : Fin 1 → IVec S16 32) a x).toNat < S24576.size a := fun v78 k1_hw8 => k1_hw8
def k1_off11 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v79 : Index := Scalar.indexCast v54
  let c128 : Index := 128#32
  ![v79.toNat, 128]

def k1_chk9 (v81 : IVec S16 32) : Prop :=
  (∀ a x, ((![v81] : Fin 1 → IVec S16 32) a x).toNat < S24576.size a)
theorem k1_idx9_inb : ∀ (v81 : IVec S16 32) (k1_hw9 : k1_chk9 v81), ∀ a x, ((![v81] : Fin 1 → IVec S16 32) a x).toNat < S24576.size a := fun v81 k1_hw9 => k1_hw9
def k1_off12 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v82 : Index := Scalar.indexCast v54
  let c144 : Index := 144#32
  ![v82.toNat, 144]

def k1_chk10 (v84 : IVec S16 32) : Prop :=
  (∀ a x, ((![v84] : Fin 1 → IVec S16 32) a x).toNat < S24576.size a)
theorem k1_idx10_inb : ∀ (v84 : IVec S16 32) (k1_hw10 : k1_chk10 v84), ∀ a x, ((![v84] : Fin 1 → IVec S16 32) a x).toNat < S24576.size a := fun v84 k1_hw10 => k1_hw10
def k1_off13 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v85 : Index := Scalar.indexCast v54
  let c160 : Index := 160#32
  ![v85.toNat, 160]

def k1_chk11 (v87 : IVec S16 32) : Prop :=
  (∀ a x, ((![v87] : Fin 1 → IVec S16 32) a x).toNat < S24576.size a)
theorem k1_idx11_inb : ∀ (v87 : IVec S16 32) (k1_hw11 : k1_chk11 v87), ∀ a x, ((![v87] : Fin 1 → IVec S16 32) a x).toNat < S24576.size a := fun v87 k1_hw11 => k1_hw11
def k1_off14 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v88 : Index := Scalar.indexCast v54
  let c176 : Index := 176#32
  ![v88.toNat, 176]

def k1_chk12 (v90 : IVec S16 32) : Prop :=
  (∀ a x, ((![v90] : Fin 1 → IVec S16 32) a x).toNat < S24576.size a)
theorem k1_idx12_inb : ∀ (v90 : IVec S16 32) (k1_hw12 : k1_chk12 v90), ∀ a x, ((![v90] : Fin 1 → IVec S16 32) a x).toNat < S24576.size a := fun v90 k1_hw12 => k1_hw12
def k1_off15 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v91 : Index := Scalar.indexCast v54
  let c192 : Index := 192#32
  ![v91.toNat, 192]

def k1_chk13 (v93 : IVec S16 32) : Prop :=
  (∀ a x, ((![v93] : Fin 1 → IVec S16 32) a x).toNat < S24576.size a)
theorem k1_idx13_inb : ∀ (v93 : IVec S16 32) (k1_hw13 : k1_chk13 v93), ∀ a x, ((![v93] : Fin 1 → IVec S16 32) a x).toNat < S24576.size a := fun v93 k1_hw13 => k1_hw13
def k1_off16 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v94 : Index := Scalar.indexCast v54
  let c208 : Index := 208#32
  ![v94.toNat, 208]

def k1_chk14 (v96 : IVec S16 32) : Prop :=
  (∀ a x, ((![v96] : Fin 1 → IVec S16 32) a x).toNat < S24576.size a)
theorem k1_idx14_inb : ∀ (v96 : IVec S16 32) (k1_hw14 : k1_chk14 v96), ∀ a x, ((![v96] : Fin 1 → IVec S16 32) a x).toNat < S24576.size a := fun v96 k1_hw14 => k1_hw14
def k1_off17 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v97 : Index := Scalar.indexCast v54
  let c224 : Index := 224#32
  ![v97.toNat, 224]

def k1_chk15 (v99 : IVec S16 32) : Prop :=
  (∀ a x, ((![v99] : Fin 1 → IVec S16 32) a x).toNat < S24576.size a)
theorem k1_idx15_inb : ∀ (v99 : IVec S16 32) (k1_hw15 : k1_chk15 v99), ∀ a x, ((![v99] : Fin 1 → IVec S16 32) a x).toNat < S24576.size a := fun v99 k1_hw15 => k1_hw15
def k1_off18 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v100 : Index := Scalar.indexCast v54
  let c240 : Index := 240#32
  ![v100.toNat, 240]

def k1_chk16 (v102 : IVec S16 32) : Prop :=
  (∀ a x, ((![v102] : Fin 1 → IVec S16 32) a x).toNat < S24576.size a)
theorem k1_idx16_inb : ∀ (v102 : IVec S16 32) (k1_hw16 : k1_chk16 v102), ∀ a x, ((![v102] : Fin 1 → IVec S16 32) a x).toNat < S24576.size a := fun v102 k1_hw16 => k1_hw16
def k1_off19 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v103 : Index := Scalar.indexCast v54
  let c256 : Index := 256#32
  ![v103.toNat, 256]

def k1_chk17 (v105 : IVec S16 32) : Prop :=
  (∀ a x, ((![v105] : Fin 1 → IVec S16 32) a x).toNat < S24576.size a)
theorem k1_idx17_inb : ∀ (v105 : IVec S16 32) (k1_hw17 : k1_chk17 v105), ∀ a x, ((![v105] : Fin 1 → IVec S16 32) a x).toNat < S24576.size a := fun v105 k1_hw17 => k1_hw17
def k1_off20 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v106 : Index := Scalar.indexCast v54
  let c272 : Index := 272#32
  ![v106.toNat, 272]

def k1_chk18 (v108 : IVec S16 32) : Prop :=
  (∀ a x, ((![v108] : Fin 1 → IVec S16 32) a x).toNat < S24576.size a)
theorem k1_idx18_inb : ∀ (v108 : IVec S16 32) (k1_hw18 : k1_chk18 v108), ∀ a x, ((![v108] : Fin 1 → IVec S16 32) a x).toNat < S24576.size a := fun v108 k1_hw18 => k1_hw18
def k1_off21 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v109 : Index := Scalar.indexCast v54
  let c288 : Index := 288#32
  ![v109.toNat, 288]

def k1_chk19 (v111 : IVec S16 32) : Prop :=
  (∀ a x, ((![v111] : Fin 1 → IVec S16 32) a x).toNat < S24576.size a)
theorem k1_idx19_inb : ∀ (v111 : IVec S16 32) (k1_hw19 : k1_chk19 v111), ∀ a x, ((![v111] : Fin 1 → IVec S16 32) a x).toNat < S24576.size a := fun v111 k1_hw19 => k1_hw19
def k1_off22 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v112 : Index := Scalar.indexCast v54
  let c304 : Index := 304#32
  ![v112.toNat, 304]

def k1_chk20 (v114 : IVec S16 32) : Prop :=
  (∀ a x, ((![v114] : Fin 1 → IVec S16 32) a x).toNat < S24576.size a)
theorem k1_idx20_inb : ∀ (v114 : IVec S16 32) (k1_hw20 : k1_chk20 v114), ∀ a x, ((![v114] : Fin 1 → IVec S16 32) a x).toNat < S24576.size a := fun v114 k1_hw20 => k1_hw20
def k1_off23 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v115 : Index := Scalar.indexCast v54
  let c320 : Index := 320#32
  ![v115.toNat, 320]

def k1_chk21 (v117 : IVec S16 32) : Prop :=
  (∀ a x, ((![v117] : Fin 1 → IVec S16 32) a x).toNat < S24576.size a)
theorem k1_idx21_inb : ∀ (v117 : IVec S16 32) (k1_hw21 : k1_chk21 v117), ∀ a x, ((![v117] : Fin 1 → IVec S16 32) a x).toNat < S24576.size a := fun v117 k1_hw21 => k1_hw21
def k1_off24 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v118 : Index := Scalar.indexCast v54
  let c336 : Index := 336#32
  ![v118.toNat, 336]

def k1_chk22 (v120 : IVec S16 32) : Prop :=
  (∀ a x, ((![v120] : Fin 1 → IVec S16 32) a x).toNat < S24576.size a)
theorem k1_idx22_inb : ∀ (v120 : IVec S16 32) (k1_hw22 : k1_chk22 v120), ∀ a x, ((![v120] : Fin 1 → IVec S16 32) a x).toNat < S24576.size a := fun v120 k1_hw22 => k1_hw22
def k1_off25 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v121 : Index := Scalar.indexCast v54
  let c352 : Index := 352#32
  ![v121.toNat, 352]

def k1_chk23 (v123 : IVec S16 32) : Prop :=
  (∀ a x, ((![v123] : Fin 1 → IVec S16 32) a x).toNat < S24576.size a)
theorem k1_idx23_inb : ∀ (v123 : IVec S16 32) (k1_hw23 : k1_chk23 v123), ∀ a x, ((![v123] : Fin 1 → IVec S16 32) a x).toNat < S24576.size a := fun v123 k1_hw23 => k1_hw23
def k1_off26 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v124 : Index := Scalar.indexCast v54
  let c368 : Index := 368#32
  ![v124.toNat, 368]

def k1_chk24 (v126 : IVec S16 32) : Prop :=
  (∀ a x, ((![v126] : Fin 1 → IVec S16 32) a x).toNat < S24576.size a)
theorem k1_idx24_inb : ∀ (v126 : IVec S16 32) (k1_hw24 : k1_chk24 v126), ∀ a x, ((![v126] : Fin 1 → IVec S16 32) a x).toNat < S24576.size a := fun v126 k1_hw24 => k1_hw24
def k1_off27 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v127 : Index := Scalar.indexCast v54
  let c384 : Index := 384#32
  ![v127.toNat, 384]

def k1_chk25 (v129 : IVec S16 32) : Prop :=
  (∀ a x, ((![v129] : Fin 1 → IVec S16 32) a x).toNat < S24576.size a)
theorem k1_idx25_inb : ∀ (v129 : IVec S16 32) (k1_hw25 : k1_chk25 v129), ∀ a x, ((![v129] : Fin 1 → IVec S16 32) a x).toNat < S24576.size a := fun v129 k1_hw25 => k1_hw25
def k1_off28 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v130 : Index := Scalar.indexCast v54
  let c400 : Index := 400#32
  ![v130.toNat, 400]

def k1_chk26 (v132 : IVec S16 32) : Prop :=
  (∀ a x, ((![v132] : Fin 1 → IVec S16 32) a x).toNat < S24576.size a)
theorem k1_idx26_inb : ∀ (v132 : IVec S16 32) (k1_hw26 : k1_chk26 v132), ∀ a x, ((![v132] : Fin 1 → IVec S16 32) a x).toNat < S24576.size a := fun v132 k1_hw26 => k1_hw26
def k1_off29 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v133 : Index := Scalar.indexCast v54
  let c416 : Index := 416#32
  ![v133.toNat, 416]

def k1_chk27 (v135 : IVec S16 32) : Prop :=
  (∀ a x, ((![v135] : Fin 1 → IVec S16 32) a x).toNat < S24576.size a)
theorem k1_idx27_inb : ∀ (v135 : IVec S16 32) (k1_hw27 : k1_chk27 v135), ∀ a x, ((![v135] : Fin 1 → IVec S16 32) a x).toNat < S24576.size a := fun v135 k1_hw27 => k1_hw27
def k1_off30 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v136 : Index := Scalar.indexCast v54
  let c432 : Index := 432#32
  ![v136.toNat, 432]

def k1_chk28 (v138 : IVec S16 32) : Prop :=
  (∀ a x, ((![v138] : Fin 1 → IVec S16 32) a x).toNat < S24576.size a)
theorem k1_idx28_inb : ∀ (v138 : IVec S16 32) (k1_hw28 : k1_chk28 v138), ∀ a x, ((![v138] : Fin 1 → IVec S16 32) a x).toNat < S24576.size a := fun v138 k1_hw28 => k1_hw28
def k1_off31 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v139 : Index := Scalar.indexCast v54
  let c448 : Index := 448#32
  ![v139.toNat, 448]

def k1_chk29 (v141 : IVec S16 32) : Prop :=
  (∀ a x, ((![v141] : Fin 1 → IVec S16 32) a x).toNat < S24576.size a)
theorem k1_idx29_inb : ∀ (v141 : IVec S16 32) (k1_hw29 : k1_chk29 v141), ∀ a x, ((![v141] : Fin 1 → IVec S16 32) a x).toNat < S24576.size a := fun v141 k1_hw29 => k1_hw29
def k1_off32 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v142 : Index := Scalar.indexCast v54
  let c464 : Index := 464#32
  ![v142.toNat, 464]

def k1_chk30 (v144 : IVec S16 32) : Prop :=
  (∀ a x, ((![v144] : Fin 1 → IVec S16 32) a x).toNat < S24576.size a)
theorem k1_idx30_inb : ∀ (v144 : IVec S16 32) (k1_hw30 : k1_chk30 v144), ∀ a x, ((![v144] : Fin 1 → IVec S16 32) a x).toNat < S24576.size a := fun v144 k1_hw30 => k1_hw30
def k1_off33 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v145 : Index := Scalar.indexCast v54
  let c480 : Index := 480#32
  ![v145.toNat, 480]

def k1_chk31 (v147 : IVec S16 32) : Prop :=
  (∀ a x, ((![v147] : Fin 1 → IVec S16 32) a x).toNat < S24576.size a)
theorem k1_idx31_inb : ∀ (v147 : IVec S16 32) (k1_hw31 : k1_chk31 v147), ∀ a x, ((![v147] : Fin 1 → IVec S16 32) a x).toNat < S24576.size a := fun v147 k1_hw31 => k1_hw31
def k1_off34 (k1_t2 : Fin k1_t2_loop.trips) : Fin 2 → Nat :=
  let c0_i32_28 : BitVec 32 := 0#32
  let c0_i32_20 : BitVec 32 := 0#32
  let c1_i32_22 : BitVec 32 := 1#32
  let arg8 : BitVec 32 := Scf.iv c0_i32_20 c1_i32_22 k1_t2
  let c1_i32_27 : BitVec 32 := 1#32
  let v53 : BitVec 32 := Scalar.muli arg8 c1_i32_27
  let v54 : BitVec 32 := Scalar.addi c0_i32_28 v53
  let v148 : Index := Scalar.indexCast v54
  let c496 : Index := 496#32
  ![v148.toNat, 496]

def k1_chk32 (v150 : IVec S16 32) : Prop :=
  (∀ a x, ((![v150] : Fin 1 → IVec S16 32) a x).toNat < S24576.size a)
theorem k1_idx32_inb : ∀ (v150 : IVec S16 32) (k1_hw32 : k1_chk32 v150), ∀ a x, ((![v150] : Fin 1 → IVec S16 32) a x).toNat < S24576.size a := fun v150 k1_hw32 => k1_hw32
@[reducible] def k1_t3_loop : Scf.Loop 32 :=
  let c0_i32_24 : BitVec 32 := 0#32
  let c384_i32 : BitVec 32 := 384#32
  let v51 : BitVec 32 := Scalar.addi c0_i32_24 c384_i32
  let c1_i32_25 : BitVec 32 := 1#32
  ⟨c0_i32_24, v51, c1_i32_25⟩
def k1_off35 (k1_t3 : Fin k1_t3_loop.trips) : Fin 1 → Nat :=
  let c0_i32_28 : BitVec 32 := 0#32
  let c0_i32_24 : BitVec 32 := 0#32
  let c1_i32_25 : BitVec 32 := 1#32
  let arg8 : BitVec 32 := Scf.iv c0_i32_24 c1_i32_25 k1_t3
  let c1_i32_27 : BitVec 32 := 1#32
  let v53 : BitVec 32 := Scalar.muli arg8 c1_i32_27
  let v54 : BitVec 32 := Scalar.addi c0_i32_28 v53
  let c16_i32 : BitVec 32 := 16#32
  let v55 : BitVec 32 := Scalar.muli v54 c16_i32
  let v56 : Index := Scalar.indexCast v55
  ![v56.toNat]
def k1_off36 (k1_t3 : Fin k1_t3_loop.trips) (c6144_i32_29 : BitVec 32) : Fin 1 → Nat :=
  let c0_i32_28 : BitVec 32 := 0#32
  let c0_i32_24 : BitVec 32 := 0#32
  let c1_i32_25 : BitVec 32 := 1#32
  let arg8 : BitVec 32 := Scf.iv c0_i32_24 c1_i32_25 k1_t3
  let c1_i32_27 : BitVec 32 := 1#32
  let v53 : BitVec 32 := Scalar.muli arg8 c1_i32_27
  let v54 : BitVec 32 := Scalar.addi c0_i32_28 v53
  let c16_i32 : BitVec 32 := 16#32
  let v55 : BitVec 32 := Scalar.muli v54 c16_i32
  let v58 : BitVec 32 := Scalar.addi c6144_i32_29 v55
  let v59 : Index := Scalar.indexCast v58
  ![v59.toNat]
def k1_off37 (k1_t3 : Fin k1_t3_loop.trips) : Fin 2 → Nat :=
  let c0_i32_28 : BitVec 32 := 0#32
  let c0_i32_24 : BitVec 32 := 0#32
  let c1_i32_25 : BitVec 32 := 1#32
  let arg8 : BitVec 32 := Scf.iv c0_i32_24 c1_i32_25 k1_t3
  let c1_i32_27 : BitVec 32 := 1#32
  let v53 : BitVec 32 := Scalar.muli arg8 c1_i32_27
  let v54 : BitVec 32 := Scalar.addi c0_i32_28 v53
  let c3_i32 : BitVec 32 := 3#32
  let v70 : BitVec 32 := Scalar.shrsi v54 c3_i32
  let v73 : Index := Scalar.indexCast v70
  let c7_i32 : BitVec 32 := 7#32
  let v71 : BitVec 32 := Scalar.andi v54 c7_i32
  let c16_i32_32 : BitVec 32 := 16#32
  let v72 : BitVec 32 := Scalar.muli v71 c16_i32_32
  let v74 : Index := Scalar.indexCast v72
  ![v73.toNat, v74.toNat]
def k1_off38 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c48_i32 : BitVec 32 := 48#32
  let v52 : BitVec 32 := Scalar.muli v1 c48_i32
  let c0_i32_27_r0 : BitVec 32 := 0#32
  ![v52.toNat, 0]
abbrev grid2 : Pipeline.Grid := .none

abbrev stage2_0 : Fin 1 → Memref sig .tc .vmem S1536x128 .i32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x19x512x512 : Shape := ⟨4, ![8, 19, 512, 512]⟩
abbrev S8x512x512 : Shape := ⟨3, ![8, 512, 512]⟩
abbrev S_ : Shape := ⟨0, ![]⟩
abbrev S2097152 : Shape := ⟨1, ![2097152]⟩
abbrev S19x19 : Shape := ⟨2, ![19, 19]⟩
abbrev S2097152x1 : Shape := ⟨2, ![2097152, 1]⟩
abbrev S2097152x2 : Shape := ⟨2, ![2097152, 2]⟩
abbrev S19 : Shape := ⟨1, ![19]⟩

abbrev nBuf : Space → Nat
  | .hbm => 64
  | .vmem => 0
  | .smem => 0
  | _ => 0

abbrev bufTy : (tb : Table) → Fin (tcTables nBuf tb) → BufTy
  | .hbm, ⟨0, _⟩ => ⟨S8x19x512x512, .f32⟩
  | .hbm, ⟨1, _⟩ => ⟨S8x512x512, .i32⟩
  | .hbm, ⟨2, _⟩ => ⟨S8x19x512x512, .i32⟩
  | .hbm, ⟨3, _⟩ => ⟨S_, .f32⟩
  | .hbm, ⟨4, _⟩ => ⟨S_, .i32⟩
  | .hbm, ⟨5, _⟩ => ⟨S8x512x512, .f32⟩
  | .hbm, ⟨6, _⟩ => ⟨S8x512x512, .i32⟩
  | .hbm, ⟨7, _⟩ => ⟨S2097152, .i32⟩
  | .hbm, ⟨8, _⟩ => ⟨S2097152, .i32⟩
  | .hbm, ⟨9, _⟩ => ⟨S_, .i32⟩
  | .hbm, ⟨10, _⟩ => ⟨S2097152, .i32⟩
  | .hbm, ⟨11, _⟩ => ⟨S_, .i32⟩
  | .hbm, ⟨12, _⟩ => ⟨S19x19, .i32⟩
  | .hbm, ⟨13, _⟩ => ⟨S_, .i32⟩
  | .hbm, ⟨14, _⟩ => ⟨S2097152, .i32⟩
  | .hbm, ⟨15, _⟩ => ⟨S2097152, .i1⟩
  | .hbm, ⟨16, _⟩ => ⟨S_, .i32⟩
  | .hbm, ⟨17, _⟩ => ⟨S2097152, .i32⟩
  | .hbm, ⟨18, _⟩ => ⟨S2097152, .i32⟩
  | .hbm, ⟨19, _⟩ => ⟨S2097152, .i32⟩
  | .hbm, ⟨20, _⟩ => ⟨S_, .i32⟩
  | .hbm, ⟨21, _⟩ => ⟨S2097152, .i32⟩
  | .hbm, ⟨22, _⟩ => ⟨S2097152, .i1⟩
  | .hbm, ⟨23, _⟩ => ⟨S_, .i32⟩
  | .hbm, ⟨24, _⟩ => ⟨S2097152, .i32⟩
  | .hbm, ⟨25, _⟩ => ⟨S2097152, .i32⟩
  | .hbm, ⟨26, _⟩ => ⟨S2097152, .i32⟩
  | .hbm, ⟨27, _⟩ => ⟨S2097152x1, .i32⟩
  | .hbm, ⟨28, _⟩ => ⟨S2097152x1, .i32⟩
  | .hbm, ⟨29, _⟩ => ⟨S2097152x2, .i32⟩
  | .hbm, ⟨30, _⟩ => ⟨S19x19, .i32⟩
  | .hbm, ⟨31, _⟩ => ⟨S19x19, .f32⟩
  | .hbm, ⟨32, _⟩ => ⟨S19x19, .i32⟩
  | .hbm, ⟨33, _⟩ => ⟨S19x19, .i32⟩
  | .hbm, ⟨34, _⟩ => ⟨S_, .i32⟩
  | .hbm, ⟨35, _⟩ => ⟨S19x19, .i32⟩
  | .hbm, ⟨36, _⟩ => ⟨S19x19, .i32⟩
  | .hbm, ⟨37, _⟩ => ⟨S19x19, .i1⟩
  | .hbm, ⟨38, _⟩ => ⟨S_, .f32⟩
  | .hbm, ⟨39, _⟩ => ⟨S_, .f32⟩
  | .hbm, ⟨40, _⟩ => ⟨S19x19, .f32⟩
  | .hbm, ⟨41, _⟩ => ⟨S19x19, .f32⟩
  | .hbm, ⟨42, _⟩ => ⟨S_, .f32⟩
  | .hbm, ⟨43, _⟩ => ⟨S19, .f32⟩
  | .hbm, ⟨44, _⟩ => ⟨S_, .f32⟩
  | .hbm, ⟨45, _⟩ => ⟨S19, .f32⟩
  | .hbm, ⟨46, _⟩ => ⟨S19, .f32⟩
  | .hbm, ⟨47, _⟩ => ⟨S_, .f32⟩
  | .hbm, ⟨48, _⟩ => ⟨S19, .f32⟩
  | .hbm, ⟨49, _⟩ => ⟨S19, .f32⟩
  | .hbm, ⟨50, _⟩ => ⟨S19, .f32⟩
  | .hbm, ⟨51, _⟩ => ⟨S19, .f32⟩
  | .hbm, ⟨52, _⟩ => ⟨S_, .f32⟩
  | .hbm, ⟨53, _⟩ => ⟨S19, .f32⟩
  | .hbm, ⟨54, _⟩ => ⟨S19, .f32⟩
  | .hbm, ⟨55, _⟩ => ⟨S19, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S8x19x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_3 : Ref sig .tc := ⟨.hbm, 20, rfl⟩
abbrev main_v10 : Ref sig .tc := ⟨.hbm, 21, rfl⟩
abbrev main_v11 : Ref sig .tc := ⟨.hbm, 22, rfl⟩
abbrev main_c_4 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst : Ref sig .tc := ⟨.hbm, 38, rfl⟩
abbrev main_call1_v0 : Ref sig .tc := ⟨.hbm, 39, rfl⟩
abbrev main_call1_v1 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_v28 : Ref sig .tc := ⟨.hbm, 46, rfl⟩
abbrev main_cst_8 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_9 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_cst_11 : Ref sig .tc := ⟨.hbm, 58, rfl⟩
abbrev main_v37 : Ref sig .tc := ⟨.hbm, 59, rfl⟩
abbrev main_cst_12 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩

abbrev nD : Nat := 1
abbrev τ : Topo := Topo.v7x

variable {F : FTy → Type} [FloatOps F]
-- ==== Proof.Hist.lean ====
/-
  The histogram the vector subcores build, as plain functions of the block of packed words: what one
  indexed add-store leaves (`storeIdx_ones`), what a row of thirty-two of them adds (`rowLands`), the
  whole scratch histogram (`hist`) and the table folded over its four copies (`fold`).
-/
module

public import proofs.«01_k».proof.Defs
public import Mathlib.Algebra.BigOperators.Fin
public import Mathlib.Data.BitVec
public import Mathlib.Tactic.Ring

@[expose] public section

noncomputable section

namespace Cert.Proof.Hist

open Cert.KernelIdeal
open Idealize.ShloMosaic

/-- Row `r`, column `c` of a block of 128 rows by 512 columns. -/
abbrev rc (r c : ℕ) : S128x512.Idx := fun a => match a with
  | 0 => (⟨r % 128, Nat.mod_lt _ (by decide)⟩ : Fin 128)
  | 1 => (⟨c % 512, Nat.mod_lt _ (by decide)⟩ : Fin 512)

/-- Lane `k` of a vector of sixteen. -/
abbrev lane (k : Fin 16) : S16.Idx := Shape.ofLane (d := ![16]) k

/-- How many lanes of `v` name the position `p`, as a word. -/
def lands (v : IVec S16 32) (p : ℕ) : BitVec 32 := ∑ k : Fin 16, if (v (lane k)).toNat = p then 1 else 0

/-- The histogram `f` with one added at every position a lane of `v` names. -/
def scat (f : IVec S24576 32) (v : IVec S16 32) : IVec S24576 32 := fun p => f p + lands v (p 0).val

/-- Folding the one-lane additions over a list of lanes adds, at each position, the number of those lanes naming it. -/
theorem foldl_lanes {s : Shape} (t : Fin 16 → s.Idx) :
    ∀ (l : List (Fin 16)) (g : IVec s 32),
      l.foldl (fun (g : IVec s 32) k => fun j => if (∀ a, (j a).val = (t k a).val) then g (t k) + 1#32 else g j) g
        = fun p => g p + (l.map fun k => if (∀ a, (p a).val = (t k a).val) then (1 : BitVec 32) else 0).sum := by
  intro l
  induction l with
  | nil => intro g; funext p; simp
  | cons k l ih =>
    intro g
    rw [List.foldl_cons, ih]
    funext p
    rw [List.map_cons, List.sum_cons, ← add_assoc]
    congr 1
    by_cases hp : ∀ a, (p a).val = (t k a).val
    · have e : t k = p := funext fun a => Fin.ext (hp a).symm
      rw [if_pos hp, if_pos hp, e]
      rfl
    · rw [if_neg hp, if_neg hp]
      simp

/-- An indexed add-store of ones under a full mask, on any shape: each position gains one per lane naming it. -/
theorem storeIdx_any {F : FTy → Type} [FloatOps F] {s : Shape} (f : IVec s 32) (idxs : Fin s.rank → IVec S16 32)
    (h : ∀ (a : Fin s.rank) (x : S16.Idx), (idxs a x).toNat < s.size a) :
    storeIdx (F := F) (s := s) (e := .i32) f idxs (fun _ => (1#32 : BitVec 32)) (fun _ => 1#1) true h
      = fun p => f p + ((List.finRange 16).map fun k => if (∀ a, (p a).val = (idxAt idxs h (lane k) a).val) then (1 : BitVec 32) else 0).sum := by
  refine Eq.trans ?_ (foldl_lanes (fun k => idxAt idxs h (lane k)) (List.finRange 16) f)
  unfold storeIdx
  simp only [if_pos (show (1#1 : BitVec 1) = 1 from rfl), ↓reduceIte, Elt.idxAdd_i32]
  refine congrArg (fun st => List.foldl st f (List.finRange 16)) ?_
  funext g k j
  congr 1

/-- An indexed add-store of ones under a full mask adds to each position the number of lanes naming it. -/
theorem storeIdx_lanes {F : FTy → Type} [FloatOps F] {n : ℕ} (f : IVec ⟨1, ![n]⟩ 32) (v : IVec S16 32)
    (h : ∀ (a : Fin 1) (x : S16.Idx), ((![v] : Fin 1 → IVec S16 32) a x).toNat < (⟨1, ![n]⟩ : Shape).size a) :
    storeIdx (F := F) (s := ⟨1, ![n]⟩) (e := .i32) f (![v] : Fin 1 → IVec S16 32) (fun _ => (1#32 : BitVec 32)) (fun _ => 1#1) true h
      = fun p => f p + lands v (p 0).val := by
  refine (storeIdx_any f _ h).trans ?_
  funext p
  unfold lands
  rw [Fin.sum_univ_def]
  congr 2
  refine List.map_congr_left fun k _ => if_congr ?_ rfl rfl
  constructor
  · intro hp; exact (hp 0).symm
  · intro hp a
    obtain rfl : a = 0 := Fin.eq_zero a
    exact hp.symm

/-- `storeIdx_lanes` at the scratch histogram's length. -/
theorem storeIdx_ones {F : FTy → Type} [FloatOps F] (f : IVec S24576 32) (v : IVec S16 32)
    (h : ∀ (a : Fin 1) (x : S16.Idx), ((![v] : Fin 1 → IVec S16 32) a x).toNat < S24576.size a) :
    storeIdx (F := F) (s := S24576) (e := .i32) f (![v] : Fin 1 → IVec S16 32) (fun _ => (1#32 : BitVec 32)) (fun _ => 1#1) true h = scat f v :=
  storeIdx_lanes f v h

/-- The positions the sixteen lanes of chunk `j` of row `r` name: the packed word, the lane, and the copy's base. -/
def chunk (A : IVec S128x512 32) (r j : ℕ) : IVec S16 32 := fun x =>
  A (rc r (16 * j + (x 0).val)) + (BitVec.ofNat 32 (x 0).val + BitVec.ofNat 32 (6144 * (j % 4)))

/-- What the thirty-two chunks of row `r` add at position `p`. -/
def rowLands (A : IVec S128x512 32) (r p : ℕ) : BitVec 32 := ∑ j ∈ Finset.range 32, lands (chunk A r j) p

/-- The scratch histogram after the first `n` rows. -/
def hist (A : IVec S128x512 32) (n : ℕ) : IVec S24576 32 := fun p => ∑ r ∈ Finset.range n, rowLands A r (p 0).val

/-- The scratch histogram after the first `n` rows and the first `j` chunks of the next. -/
def histC (A : IVec S128x512 32) (n j : ℕ) : IVec S24576 32 := fun p => hist A n p + ∑ j ∈ Finset.range j, lands (chunk A n j) (p 0).val

theorem histC_zero (A : IVec S128x512 32) (n : ℕ) : histC A n 0 = hist A n := by
  funext p; simp [histC]

theorem histC_succ (A : IVec S128x512 32) (n j : ℕ) : scat (histC A n j) (chunk A n j) = histC A n (j + 1) := by
  funext p; simp only [scat, histC, Finset.sum_range_succ, add_assoc]

theorem histC_last (A : IVec S128x512 32) (n : ℕ) : histC A n 32 = hist A (n + 1) := by
  funext p; simp only [histC, hist, rowLands, Finset.sum_range_succ _ n]

theorem hist_zero (A : IVec S128x512 32) (f : IVec S24576 32) (hf : ∀ p, f p = 0) : f = hist A 0 := by
  funext p; simp [hist, hf p]

/-- The position `n` of the scratch histogram. -/
abbrev pos (n : ℕ) : S24576.Idx := fun a => match a with
  | 0 => (⟨n % 24576, Nat.mod_lt _ (by decide)⟩ : Fin 24576)

/-- Bin `k`, lane `l` of the folded table: the sum over the four copies of a histogram. -/
def foldOf (f : IVec S24576 32) (k l : ℕ) : BitVec 32 :=
  (f (pos (16 * k + l)) + f (pos (6144 + 16 * k + l))) + (f (pos (12288 + 16 * k + l)) + f (pos (18432 + 16 * k + l)))

/-- The folded table of a block, laid out in 48 rows of 128. -/
def table (A : IVec S128x512 32) : IVec S48x128 32 := fun p => foldOf (hist A 128) (8 * (p 0).val + (p 1).val / 16) ((p 1).val % 16)

/-- Block `w` of the packed words: image `w / 4`, rows from `128 (w % 4)`. -/
def block (B : IVec S8x512x512 32) (w : ℕ) : IVec S128x512 32 := fun i =>
  B fun a => match a with
    | 0 => (⟨w / 4 % 8, Nat.mod_lt _ (by decide)⟩ : Fin 8)
    | 1 => (⟨(128 * (w % 4) + (i 0).val) % 512, Nat.mod_lt _ (by decide)⟩ : Fin 512)
    | 2 => (⟨(i 1).val % 512, Nat.mod_lt _ (by decide)⟩ : Fin 512)

/-- All thirty-two folded tables, forty-eight rows each. -/
def tables (B : IVec S8x512x512 32) : IVec S1536x128 32 := fun p =>
  table (block B ((p 0).val / 48)) fun a => match a with
    | 0 => (⟨(p 0).val % 48, Nat.mod_lt _ (by decide)⟩ : Fin 48)
    | 1 => (⟨(p 1).val % 128, Nat.mod_lt _ (by decide)⟩ : Fin 128)

end Cert.Proof.Hist

end
-- ==== Proof.Base.lean ====
/-
  The SparseCore launch of the kernel: its resource algebra, what the launch hands each tile and gets back,
  and the parts of the two arrays a tile works on.
-/
module
public import proofs.«01_k».proof.Defs
public import proofs.«01_k».proof.Proof.Hist
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.ValueKit.Geometry
public import Idealize.ShloMosaic.Lib.Tactic
public import proofs.«01_k».proof.Proof.Gen.KernelIdeal
public import proofs.«01_k».proof.Proof.Gen.KernelIdeal.Skeleton

@[expose] public section
noncomputable section

namespace Cert.Proof.Base

open Cert.KernelIdeal Cert.KernelIdeal.Gen
open Cert.Proof.Hist
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueKit

variable {F : FTy → Type}

/-! ## The launch -/

abbrev ΛP : Labels := Pipeline.Sig Λ₀ (Fin 2) fun p => (pcfgs (F := F) p).Adm
abbrev K : SparseCore.Cfg τ sig (ΛP (F := F)) 1 := sc (F := F)
theorem nSub_zero : (K (F := F)).nSub 0 = 16 := rfl
abbrev D [FloatOps F] := Pipeline.defs (pcfgs (F := F)) (defs₀ (F := F))
abbrev 𝒱₀ : Variants := Variants.none
abbrev 𝒱 : Variants := 𝒱₀.lift
abbrev v₀ : 𝒱.V := Sum.inl none

/-- The launch's own cells are set apart from the program's. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds, the two pipelines' rounds, the transfers' counters -/

abbrev UH : Type := URounds (GSem nD τ sig) ℕ
abbrev UB : Type := URounds (GSem nD τ sig) Unit
abbrev UU : Type := UH × (UB × Counters)

local notation "𝕄" => MT nD τ sig (HIx 1) (Elt F) ℕ UU ℕ

/-- The handshakes' rounds. -/
abbrev EH : Emb UH (MT nD τ sig (HIx 1) (Elt F) ℕ UU ℕ) := embL
/-- The pipelines' rounds. -/
def EP : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EP_landsIn : (EP : Emb UB 𝕄).LandsIn (upEmb : UEmb _ 𝕄) := by unfold EP; infer_instance

/-! ## The arrays -/

/-- The packed words the tiles read, on device `d`. -/
abbrev pLoc (d : Dev nD) : Loc nD τ sig := (SparseCore.T d).loc main_v0
/-- The tables the tiles write, on device `d`. -/
abbrev hLoc (d : Dev nD) : Loc nD τ sig := (SparseCore.T d).loc main_v1

abbrev pV : Memref sig .scVector .hbm S8x512x512 .i32 := Memref.whole main_v0_scv
abbrev hV : Memref sig .scVector .hbm S1536x128 .i32 := Memref.whole main_v1_scv
/-- A tile's scratch: its block of words, its output table, its histogram. -/
abbrev sA : Memref sig .scVector .vmem S128x512 .i32 := Memref.whole cc1_scratch0
abbrev sO : Memref sig .scVector .vmem S48x128 .i32 := Memref.whole cc1_scratch1
abbrev sH : Memref sig .scVector .vmem S24576 .i32 := Memref.whole cc1_scratch2

/-- Of the packed words, those of tile `w`: batch row `w / 4`, image rows `128 * (w % 4)` on. -/
def inSet (w : ℕ) : Finset S8x512x512.Idx := Finset.univ.filter fun i => (i 0).val * 4 + (i 1).val / 128 = w
/-- Of the tables, tile `w`'s. -/
def outSet (w : ℕ) : Finset S1536x128.Idx := Finset.univ.filter fun i => (i 0).val / 48 = w

variable [FloatOps F]

/-- What a tile is handed: its words at `B`, its table's rows at anything. -/
def goOf (B : IVec S8x512x512 32) (d : Dev nD) (w : ℕ) : sProp 𝕄 :=
  iprop((pLoc d ↦[inSet w]{fullShare} B) ∗ ∃ f, hLoc d ↦[outSet w]{fullShare} f)
/-- What it gives back: its words, its table's rows filled. -/
def tdOf (B : IVec S8x512x512 32) (d : Dev nD) (w : ℕ) : sProp 𝕄 :=
  iprop((pLoc d ↦[inSet w]{fullShare} B) ∗ hLoc d ↦[outSet w]{fullShare} tables B)

instance goOf_storable (B : IVec S8x512x512 32) (d : Dev nD) (w : ℕ) : BI.Storable (upEmb : UEmb _ 𝕄) (goOf (F := F) B d w) := by
  unfold goOf; infer_instance
instance tdOf_storable (B : IVec S8x512x512 32) (d : Dev nD) (w : ℕ) : BI.Storable (upEmb : UEmb _ 𝕄) (tdOf (F := F) B d w) := by
  unfold tdOf; infer_instance

variable (B : Dev nD → IVec S8x512x512 32)

/-- What the launch's handshakes carry: the sixteen tiles' parts to a core, one to each tile, and back. -/
def P : (K (F := F)).Pay (nD := nD) (Val := Elt F) (Name := ℕ) (U := UU) where
  st := fun q d c => match q with | 0 => bigSep Finset.univ fun i : Fin ((K (F := F)).nSub 0) => goOf (B d) d (2 * i.val + c.val)
  dn := fun q d c => match q with | 0 => bigSep Finset.univ fun i : Fin ((K (F := F)).nSub 0) => tdOf (B d) d (2 * i.val + c.val)
  go := fun q d c i => match q with | 0 => goOf (B d) d (2 * i.val + c.val)
  td := fun q d c i => match q with | 0 => tdOf (B d) d (2 * i.val + c.val)
  x := fun _ _ => iprop(emp)

instance P_storable : (P (F := F) B).IsStorable where
  st q d c := match q with
    | 0 => (inferInstance : BI.Storable (upEmb : UEmb _ 𝕄) (bigSep Finset.univ fun i : Fin ((K (F := F)).nSub 0) => goOf (B d) d (2 * i.val + c.val)))
  dn q d c := match q with
    | 0 => (inferInstance : BI.Storable (upEmb : UEmb _ 𝕄) (bigSep Finset.univ fun i : Fin ((K (F := F)).nSub 0) => tdOf (B d) d (2 * i.val + c.val)))
  go q d c i := match q with | 0 => (inferInstance : BI.Storable (upEmb : UEmb _ 𝕄) (goOf (B d) d (2 * i.val + c.val)))
  td q d c i := match q with | 0 => (inferInstance : BI.Storable (upEmb : UEmb _ 𝕄) (tdOf (B d) d (2 * i.val + c.val)))

/-! ## A tile's place -/

section Tile
variable (d : Dev nD) (L : grid1.Coords)

abbrev cV (L : grid1.Coords) : Fin τ.nSC := (L 0).castLE hcore1
abbrev jV (L : grid1.Coords) : Fin τ.nSub := (L 1).castLE hsub1
/-- The tile's number. -/
abbrev wid (L : grid1.Coords) : ℕ := 2 * (L 1).val + (L 0).val
omit [FloatOps F] in
theorem wid_lt : wid L < 32 := by
  have h0 : (L 0).val < 2 := (L 0).isLt
  have h1 : (L 1).val < 16 := (L 1).isLt
  unfold wid; omega

theorem off1_eq : ∀ i : grid1.Coords, k1_off1 i = ![wid i / 4, wid i % 4 * 128, 0] := by decide +kernel

/-- The tile's block of the packed words, as a matrix. -/
abbrev pBlk (L : grid1.Coords) : Memref sig .scVector .hbm S128x512 .i32 :=
  ((pV : Memref sig .scVector .hbm S8x512x512 .i32).slice (Rect.unit (s := S8x512x512) (k1_off1 L) S1x128x512.size (k1_off1_inb L)) (fun _ => rfl)).squeeze
    S128x512 squeezes_S1x128x512_S128x512
/-- The tile's rows of the tables. -/
abbrev hBlk (L : grid1.Coords) : Memref sig .scVector .hbm S48x128 .i32 :=
  (hV : Memref sig .scVector .hbm S1536x128 .i32).slice (Rect.unit (s := S1536x128) (k1_off38 L) S48x128.size (k1_off38_inb L)) (fun _ => rfl)

theorem set_pBlk : (pBlk L).view.set = inSet (wid L) := by
  show (((pV : Memref sig .scVector .hbm S8x512x512 .i32).view.slice (Rect.unit (s := S8x512x512) (k1_off1 L) S1x128x512.size (k1_off1_inb L))).reshape
    S128x512 squeezes_S1x128x512_S128x512.numel_eq).set = _
  rw [View.set_reshape]
  ext i
  refine (mem_set_slice_whole_iff main_v0_scv (Rect.unit (s := S8x512x512) (k1_off1 L) S1x128x512.size (k1_off1_inb L)) i Rect.mem_set_unit).trans ?_
  have h0 : (i 0).val < 8 := (i 0).isLt
  have h1 : (i 1).val < 512 := (i 1).isLt
  have h2 : (i 2).val < 512 := (i 2).isLt
  simp only [inSet, Finset.mem_filter, Finset.mem_univ, true_and, off1_eq]
  constructor
  · intro h
    have e0 := h 0; have e1 := h 1
    simp at e0 e1; omega
  · intro h a
    fin_cases a <;> simp <;> omega

theorem set_hBlk : (hBlk L).view.set = outSet (wid L) := by
  show (((hV : Memref sig .scVector .hbm S1536x128 .i32).view.slice (Rect.unit (s := S1536x128) (k1_off38 L) S48x128.size (k1_off38_inb L)))).set = _
  ext i
  refine (mem_set_slice_whole_iff main_v1_scv (Rect.unit (s := S1536x128) (k1_off38 L) S48x128.size (k1_off38_inb L)) i Rect.mem_set_unit).trans ?_
  have h0 : (i 0).val < 1536 := (i 0).isLt
  have h1 : (i 1).val < 128 := (i 1).isLt
  have hw : wid L = 2 * (L 1).val + (L 0).val := rfl
  simp only [outSet, Finset.mem_filter, Finset.mem_univ, true_and, k1_off38_eq]
  constructor
  · intro h
    have e0 := h 0
    simp at e0; omega
  · intro h a
    fin_cases a <;> simp <;> omega

/-- The semaphores and scratch buffers of the tile's scoped resources, and the rest. -/
abbrev cIn (d : Dev nD) (L : grid1.Coords) : GSem nD τ sig := (V d (cV L) (jV L), .dma cc1_scratch3.sem)
abbrev cOut (d : Dev nD) (L : grid1.Coords) : GSem nD τ sig := (V d (cV L) (jV L), .dma cc1_scoped0.sem)

theorem sems_V :
    (ownSems0 (V d (cV L) (jV L)) : sProp 𝕄)
      = iprop(semVal (cIn d L) 0 ∗ semVal (cOut d L) 0
          ∗ bigSep (((ownCells (V d (cV L) (jV L))).erase (cIn d L)).erase (cOut d L)) fun g => semVal g 0) := by
  have hIn : cIn d L ∈ ownCells (V d (cV L) (jV L)) :=
    (mem_ownCells (g := cIn d L)).mpr ⟨rfl, by show (SemLoc.dma cc1_scratch3.sem : SemLoc sig).isScoped .scVector = true; decide⟩
  have hOut : cOut d L ∈ ownCells (V d (cV L) (jV L)) :=
    (mem_ownCells (g := cOut d L)).mpr ⟨rfl, by show (SemLoc.dma cc1_scoped0.sem : SemLoc sig).isScoped .scVector = true; decide⟩
  have hne : cOut d L ≠ cIn d L := by simp [cIn, cOut]; decide
  unfold SparseCore.Cfg.ownSems0
  rw [SparseCore.bigSep_erase' hIn, SparseCore.bigSep_erase' (Finset.mem_erase.mpr ⟨hne, hOut⟩)]

theorem bufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hne : ∀ {a b : Ref sig .scVector}, a ≠ b → (Proc.scVector (cV L) (jV L)).devRef a ≠ (Proc.scVector (cV L) (jV L)).devRef b :=
    fun h e => h (Proc.devRef_injective _ e)
  have h0 := SparseCore.Cfg.mem_ownRefs_of_owner (p := Proc.scVector (cV L) (jV L)) (b := (Proc.scVector (cV L) (jV L)).devRef cc1_scratch0) rfl
  have h1 := SparseCore.Cfg.mem_ownRefs_of_owner (p := Proc.scVector (cV L) (jV L)) (b := (Proc.scVector (cV L) (jV L)).devRef cc1_scratch1) rfl
  have h2 := SparseCore.Cfg.mem_ownRefs_of_owner (p := Proc.scVector (cV L) (jV L)) (b := (Proc.scVector (cV L) (jV L)).devRef cc1_scratch2) rfl
  unfold SparseCore.Cfg.ownBufs
  refine (SparseCore.bigSep_erase' h0).trans ?_
  rw [SparseCore.bigSep_erase' (Finset.mem_erase.mpr ⟨hne (by decide), h1⟩),
    SparseCore.bigSep_erase' (Finset.mem_erase.mpr ⟨hne (by decide), Finset.mem_erase.mpr ⟨hne (by decide), h2⟩⟩)]

end Tile

end Cert.Proof.Base
-- ==== Proof.Chunk.lean ====
/-
  One step of a tile's histogram: load sixteen packed words, add the lane offsets, scatter sixteen ones.
-/
module
public import proofs.«01_k».proof.Proof.Base
public import Idealize.ShloMosaic.Lib.Pipeline.Value

@[expose] public section
noncomputable section

namespace Cert.Proof.Base

open Cert.KernelIdeal Cert.KernelIdeal.Gen
open Cert.Proof.Hist
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The lane offsets of chunks `j` with `j % 4 = q`. -/
def bias : ℕ → IVec S16 32
  | 0 => k1_pay2 | 1 => k1_pay3 | 2 => k1_pay4 | _ => k1_pay5

omit [FloatOps F] in
theorem bias_apply (j : ℕ) (x : S16.Idx) : bias (j % 4) x = BitVec.ofNat 32 (x 0).val + BitVec.ofNat 32 (6144 * (j % 4)) := by
  have e : iota .scVector S16 32 [0] iota_S16_d0_w32_scVector x = BitVec.ofNat 32 (x 0).val := by
    show BitVec.ofNat 32 (0 * 16 + (x 0).val) = _
    simp
  obtain h | h | h | h : j % 4 = 0 ∨ j % 4 = 1 ∨ j % 4 = 2 ∨ j % 4 = 3 := by omega
  all_goals rw [h]; exact congrArg (· + _) e

/-- A payload of the histogram loop: sixteen loaded words and their lane offsets. -/
def payOf (q : ℕ) (ld : Vec F S1x16 .i32) : IVec S16 32 :=
  addi (shapeCast (s := S1x16) (α := BitVec 32) S16 ld shapeCasts_S1x16_S16) (bias q)

omit [FloatOps F] in
/-- What is loaded at row `r`, columns `16 * j` on, with its offsets, is the chunk `j` of row `r`. -/
theorem payOf_load (A : IVec S128x512 32) (r j : ℕ) (hr : r < 128) (hj : j < 32) (off : Fin 2 → ℕ) (inb) (hoff : off = ![r, 16 * j]) :
    payOf (F := F) (j % 4) ((sA : Memref sig .scVector .vmem S128x512 .i32).view.readAt (Elt F) (Rect.unit (s := S128x512) off S1x16.size inb).toLoadRect A)
      = chunk A r j := by
  subst hoff
  funext x
  refine (congrArg₂ (· + ·) (shapeCast_dropUnit_apply (d := ![16]) _ _ x) (bias_apply j x)).trans ?_
  unfold chunk
  refine congrArg (· + _) ?_
  refine congrArg A ?_
  have hx : (x 0).val < 16 := (x 0).isLt
  funext a
  apply Fin.ext
  fin_cases a
  · show r + 1 * 0 = (Fin.ofNat 128 r).val
    simp [Fin.ofNat, Nat.mod_eq_of_lt hr]
  · show 16 * j + 1 * (x 0).val = (Fin.ofNat 512 _).val
    simp only [Fin.ofNat]; rw [Nat.mod_eq_of_lt (by omega)]; omega

/-- No chunk of small words reaches past the histogram. -/
theorem chunk_lt (A : IVec S128x512 32) (hA : ∀ i, (A i).toNat ≤ 6128) (r j : ℕ) (x : S16.Idx) : (chunk A r j x).toNat < 24576 := by
  have h := hA (rc r (16 * j + (x 0).val))
  have hx : (x 0).val < 16 := (x 0).isLt
  unfold chunk
  have hq : j % 4 < 4 := Nat.mod_lt _ (by omega)
  generalize j % 4 = q at *
  rw [BitVec.toNat_add, BitVec.toNat_add, BitVec.toNat_ofNat, BitVec.toNat_ofNat,
    Nat.mod_eq_of_lt (a := (x 0).val) (by omega), Nat.mod_eq_of_lt (a := 6144 * q) (by omega),
    Nat.mod_eq_of_lt (a := (x 0).val + 6144 * q) (by omega), Nat.mod_eq_of_lt (by omega)]
  omega

section
variable (d : Dev nD) (L : grid1.Coords)

abbrev thr (d : Dev nD) (L : grid1.Coords) : Thread nD τ := V d (cV L) (jV L)
abbrev APt (A : IVec S128x512 32) : sProp 𝕄 := (thr d L).loc cc1_scratch0 ↦{fullShare} A
abbrev OPt (f : IVec S48x128 32) : sProp 𝕄 := (thr d L).loc cc1_scratch1 ↦{fullShare} f
abbrev HPt (f : IVec S24576 32) : sProp 𝕄 := (thr d L).loc cc1_scratch2 ↦{fullShare} f

/-- The scatter of ones at positions in range adds, at each position, the number of lanes naming it. -/
theorem wp_ones {α : Type} (v : IVec S16 32) (h hs) (f : IVec S24576 32) (k : PUnit → Prog _ α) (Q : α → sProp 𝕄) :
    iprop(HPt d L f ∗ (HPt d L (scat f v) -∗ wp frame (wpE (defs₀ (F := F)) 𝒱₀ (thr d L) none) Set.univ (k ⟨⟩) Q))
      ⊢ wp frame (wpE (defs₀ (F := F)) 𝒱₀ (thr d L) none) Set.univ
          (SparseCore.vectorStoreIdx (sH : Memref sig .scVector .vmem S24576 .i32) ![v] k1_pay1 (fun _ => 1#1) true h hs >>= k) Q := by
  have e : ((sH : Memref sig .scVector .vmem S24576 .i32).access (.whole S24576)).set = Finset.univ := Memref.set_access_whole (cc1_scratch2 : Ref sig .scVector)
  have ew : ∀ (g : IVec S24576 32), ((sH : Memref sig .scVector .vmem S24576 .i32).access (.whole S24576)).write (Elt F) f g Finset.univ = g :=
    fun g => Memref.write_access_whole_univ (Elt F) (cc1_scratch2 : Ref sig .scVector) f g
  have er : ((sH : Memref sig .scVector .vmem S24576 .i32).access (.whole S24576)).read (Elt F) f = f :=
    Memref.read_access_whole (Elt F) (cc1_scratch2 : Ref sig .scVector) f
  have hw := SparseCore.wp_vectorStoreIdx (defs := defs₀ (F := F)) 𝒱₀ (thr d L) none Set.univ (Q := Q)
    (base := (sH : Memref sig .scVector .vmem S24576 .i32)) (idxs := ![v]) (v := k1_pay1) (mask := fun _ => 1#1) (add := true) (h := h) (hs := hs) (k := k) (f := f)
  rw [e] at hw
  iintro ⟨Hh, Hk⟩
  iapply hw $$ Hh
  iintro Hh
  iapply Hk
  iapply (Entails.of_eq (congrArg (fun g => HPt (F := F) d L g) ((ew _).trans ((congrArg (fun g => storeIdx g ![v] k1_pay1 (fun _ => 1#1) true h) er).trans (storeIdx_ones (F := F) f v h))))) $$ Hh

/-- One step of the histogram loop: chunk `j` of row `r` is loaded, checked and scattered. -/
theorem wp_chunk (A : IVec S128x512 32) (hA : ∀ i, (A i).toNat ≤ 6128) (r j : ℕ) (hr : r < 128) (hj : j < 32)
    (off : Fin 2 → ℕ) (inb) (hl) (hoff : off = ![r, 16 * j]) (pay : Vec F S1x16 .i32 → IVec S16 32) (hpay : ∀ ld, pay ld = payOf (j % 4) ld)
    (chk : IVec S16 32 → Prop) (dec : ∀ v, Decidable (chk v)) (hchk : ∀ v : IVec S16 32, (∀ a x, ((![v] : Fin 1 → IVec S16 32) a x).toNat < S24576.size a) → chk v)
    (idx : ∀ v : IVec S16 32, chk v → ∀ a x, ((![v] : Fin 1 → IVec S16 32) a x).toNat < S24576.size a) (hs)
    {α : Type} (k : PUnit → Prog _ α) (Q : α → sProp 𝕄) :
    iprop(APt d L A ∗ HPt d L (histC A r j) ∗ ((APt d L A ∗ HPt d L (histC A r (j + 1))) -∗ wp frame (wpE (defs₀ (F := F)) 𝒱₀ (thr d L) none) Set.univ (k ⟨⟩) Q))
      ⊢ wp frame (wpE (defs₀ (F := F)) 𝒱₀ (thr d L) none) Set.univ
          (Prog.lift (.load (sA : Memref sig .scVector .vmem S128x512 .i32) (Rect.unit (s := S128x512) off S1x16.size inb).toLoadRect hl) >>= fun ld =>
            Prog.lift (TpuEff.assume (chk (pay ld)) (dec (pay ld))) >>= fun h =>
              SparseCore.vectorStoreIdx (sH : Memref sig .scVector .vmem S24576 .i32) ![pay ld] k1_pay1 (fun _ => 1#1) true (idx (pay ld) h.down) hs >>= k) Q := by
  have e : pay ((sA : Memref sig .scVector .vmem S128x512 .i32).view.readAt (Elt F) (Rect.unit (s := S128x512) off S1x16.size inb).toLoadRect A)
      = chunk A r j := (hpay _).trans (payOf_load A r j hr hj off inb hoff)
  have hc : chk (chunk A r j) := hchk _ fun a x => by
    obtain rfl : a = 0 := Subsingleton.elim _ _
    exact chunk_lt A hA r j x
  iintro ⟨HA, Hh, Hk⟩
  iapply (wp_load 𝒱₀ (thr d L) none Set.univ (m := (sA : Memref sig .scVector .vmem S128x512 .i32)) (S := Finset.univ) (Finset.subset_univ _)) $$ HA
  iintro HA
  show _ ⊢ wp frame (wpE (defs₀ (F := F)) 𝒱₀ (thr d L) none) Set.univ (.op (.assume (chk (pay _)) (dec (pay _))) fun h =>
    SparseCore.vectorStoreIdx (sH : Memref sig .scVector .vmem S24576 .i32) ![pay _] k1_pay1 (fun _ => 1#1) true (idx (pay _) h.down) hs >>= k) Q
  rw [e]
  rw [wp_assume_of _ _ _ _ hc]
  have hw := wp_ones d L (chunk A r j) (idx _ hc) hs (histC A r j) k Q
  refine BIBase.Entails.trans ?_ hw
  iintro ⟨⟨Hh, Hk⟩, HA⟩
  isplitl [Hh]; · iexact Hh
  iintro Hh
  iapply Hk
  isplitl [HA]; · iexact HA
  iapply (Entails.of_eq (congrArg (fun g => HPt (F := F) d L g) (histC_succ A r j))) $$ Hh

/-- `wp_chunk`, the rest of the program proved from the next histogram. -/
theorem chunk_then (A : IVec S128x512 32) (hA : ∀ i, (A i).toNat ≤ 6128) (r j : ℕ) (hr : r < 128) (hj : j < 32)
    (off : Fin 2 → ℕ) (inb) (hl) (hoff : off = ![r, 16 * j]) (pay : Vec F S1x16 .i32 → IVec S16 32) (hpay : ∀ ld, pay ld = payOf (j % 4) ld)
    (chk : IVec S16 32 → Prop) (dec : ∀ v, Decidable (chk v)) (hchk : ∀ v : IVec S16 32, (∀ a x, ((![v] : Fin 1 → IVec S16 32) a x).toNat < S24576.size a) → chk v)
    (idx : ∀ v : IVec S16 32, chk v → ∀ a x, ((![v] : Fin 1 → IVec S16 32) a x).toNat < S24576.size a) (hs)
    {α : Type} (k : PUnit → Prog _ α) (Q : α → sProp 𝕄)
    (hk : iprop(APt d L A ∗ HPt d L (histC A r (j + 1))) ⊢ wp frame (wpE (defs₀ (F := F)) 𝒱₀ (thr d L) none) Set.univ (k ⟨⟩) Q) :
    iprop(APt d L A ∗ HPt d L (histC A r j))
      ⊢ wp frame (wpE (defs₀ (F := F)) 𝒱₀ (thr d L) none) Set.univ
          (Prog.lift (.load (sA : Memref sig .scVector .vmem S128x512 .i32) (Rect.unit (s := S128x512) off S1x16.size inb).toLoadRect hl) >>= fun ld =>
            Prog.lift (TpuEff.assume (chk (pay ld)) (dec (pay ld))) >>= fun h =>
              SparseCore.vectorStoreIdx (sH : Memref sig .scVector .vmem S24576 .i32) ![pay ld] k1_pay1 (fun _ => 1#1) true (idx (pay ld) h.down) hs >>= k) Q := by
  refine BIBase.Entails.trans ?_ (wp_chunk d L A hA r j hr hj off inb hl hoff pay hpay chk dec hchk idx hs k Q)
  iintro ⟨HA, Hh⟩
  isplitl [HA]; · iexact HA
  isplitl [Hh]; · iexact Hh
  iintro H
  iapply hk $$ H

end

end Cert.Proof.Base
-- ==== Proof.Loops.lean ====
/-
  The three counted loops of a tile: clearing the histogram, filling it, folding its copies into the table.
-/
module
public import proofs.«01_k».proof.Proof.Chunk

@[expose] public section
noncomputable section

namespace Cert.Proof.Base

open Cert.KernelIdeal Cert.KernelIdeal.Gen
open Cert.Proof.Hist
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.View

variable {F : FTy → Type} [FloatOps F]

local notation "𝕄" => MT nD τ sig (HIx 1) (Elt F) ℕ UU ℕ

section
variable (d : Dev nD) (L : grid1.Coords)

/-! ## The histogram loop -/

/-- One trip of the histogram loop counts one row. -/
theorem body2 (h2 h3 h4 h5 h6) (A : IVec S128x512 32) (hA : ∀ i, (A i).toNat ≤ 6128) (k : Fin k1_t2_loop.trips) (u : Unit) :
    iprop(APt d L A ∗ HPt d L (hist A k.val))
      ⊢ wp frame (wpE (defs₀ (F := F)) 𝒱₀ (thr d L) none) Set.univ
          (k1_t2_body L pV h2 hV h3 sA h4 sO h5 sH h6 cc1_scratch3 cc1_scoped0 k u)
          fun _ => iprop(APt d L A ∗ HPt d L (hist A (k.val + 1))) := by
  have hk : k.val < 128 := Nat.lt_of_lt_of_le k.isLt k1_t2_abs.2.1
  unfold k1_t2_body
  rw [k1_part1_eq_skeleton, k1_part2_eq_skeleton, k1_part3_eq_skeleton]
  unfold k1_part1_skel k1_part2_skel k1_part3_skel
  simp only [bind_assoc, pure_bind]
  rw [← histC_zero A k.val, ← histC_last A k.val]
  refine chunk_then d L A hA k.val 0 hk (by decide) (k1_off3 k) _ _ (k1_off3_eq k) (k1_pay14 k1_pay2) (fun _ => rfl) k1_chk1 k1_chk1.dec (fun _ h => h) k1_idx1_inb _ _ _ ?_
  refine chunk_then d L A hA k.val 1 hk (by decide) (k1_off4 k) _ _ (k1_off4_eq k) (k1_pay15 k1_pay3) (fun _ => rfl) k1_chk2 k1_chk2.dec (fun _ h => h) k1_idx2_inb _ _ _ ?_
  refine chunk_then d L A hA k.val 2 hk (by decide) (k1_off5 k) _ _ (k1_off5_eq k) (k1_pay16 k1_pay4) (fun _ => rfl) k1_chk3 k1_chk3.dec (fun _ h => h) k1_idx3_inb _ _ _ ?_
  refine chunk_then d L A hA k.val 3 hk (by decide) (k1_off6 k) _ _ (k1_off6_eq k) (k1_pay17 k1_pay5) (fun _ => rfl) k1_chk4 k1_chk4.dec (fun _ h => h) k1_idx4_inb _ _ _ ?_
  refine chunk_then d L A hA k.val 4 hk (by decide) (k1_off7 k) _ _ (k1_off7_eq k) (k1_pay18 k1_pay2) (fun _ => rfl) k1_chk5 k1_chk5.dec (fun _ h => h) k1_idx5_inb _ _ _ ?_
  refine chunk_then d L A hA k.val 5 hk (by decide) (k1_off8 k) _ _ (k1_off8_eq k) (k1_pay19 k1_pay3) (fun _ => rfl) k1_chk6 k1_chk6.dec (fun _ h => h) k1_idx6_inb _ _ _ ?_
  refine chunk_then d L A hA k.val 6 hk (by decide) (k1_off9 k) _ _ (k1_off9_eq k) (k1_pay20 k1_pay4) (fun _ => rfl) k1_chk7 k1_chk7.dec (fun _ h => h) k1_idx7_inb _ _ _ ?_
  refine chunk_then d L A hA k.val 7 hk (by decide) (k1_off10 k) _ _ (k1_off10_eq k) (k1_pay21 k1_pay5) (fun _ => rfl) k1_chk8 k1_chk8.dec (fun _ h => h) k1_idx8_inb _ _ _ ?_
  refine chunk_then d L A hA k.val 8 hk (by decide) (k1_off11 k) _ _ (k1_off11_eq k) (k1_pay22 k1_pay2) (fun _ => rfl) k1_chk9 k1_chk9.dec (fun _ h => h) k1_idx9_inb _ _ _ ?_
  refine chunk_then d L A hA k.val 9 hk (by decide) (k1_off12 k) _ _ (k1_off12_eq k) (k1_pay23 k1_pay3) (fun _ => rfl) k1_chk10 k1_chk10.dec (fun _ h => h) k1_idx10_inb _ _ _ ?_
  refine chunk_then d L A hA k.val 10 hk (by decide) (k1_off13 k) _ _ (k1_off13_eq k) (k1_pay24 k1_pay4) (fun _ => rfl) k1_chk11 k1_chk11.dec (fun _ h => h) k1_idx11_inb _ _ _ ?_
  refine chunk_then d L A hA k.val 11 hk (by decide) (k1_off14 k) _ _ (k1_off14_eq k) (k1_pay25 k1_pay5) (fun _ => rfl) k1_chk12 k1_chk12.dec (fun _ h => h) k1_idx12_inb _ _ _ ?_
  refine chunk_then d L A hA k.val 12 hk (by decide) (k1_off15 k) _ _ (k1_off15_eq k) (k1_pay26 k1_pay2) (fun _ => rfl) k1_chk13 k1_chk13.dec (fun _ h => h) k1_idx13_inb _ _ _ ?_
  refine chunk_then d L A hA k.val 13 hk (by decide) (k1_off16 k) _ _ (k1_off16_eq k) (k1_pay27 k1_pay3) (fun _ => rfl) k1_chk14 k1_chk14.dec (fun _ h => h) k1_idx14_inb _ _ _ ?_
  refine chunk_then d L A hA k.val 14 hk (by decide) (k1_off17 k) _ _ (k1_off17_eq k) (k1_pay28 k1_pay4) (fun _ => rfl) k1_chk15 k1_chk15.dec (fun _ h => h) k1_idx15_inb _ _ _ ?_
  refine chunk_then d L A hA k.val 15 hk (by decide) (k1_off18 k) _ _ (k1_off18_eq k) (k1_pay29 k1_pay5) (fun _ => rfl) k1_chk16 k1_chk16.dec (fun _ h => h) k1_idx16_inb _ _ _ ?_
  refine chunk_then d L A hA k.val 16 hk (by decide) (k1_off19 k) _ _ (k1_off19_eq k) (k1_pay30 k1_pay2) (fun _ => rfl) k1_chk17 k1_chk17.dec (fun _ h => h) k1_idx17_inb _ _ _ ?_
  refine chunk_then d L A hA k.val 17 hk (by decide) (k1_off20 k) _ _ (k1_off20_eq k) (k1_pay31 k1_pay3) (fun _ => rfl) k1_chk18 k1_chk18.dec (fun _ h => h) k1_idx18_inb _ _ _ ?_
  refine chunk_then d L A hA k.val 18 hk (by decide) (k1_off21 k) _ _ (k1_off21_eq k) (k1_pay32 k1_pay4) (fun _ => rfl) k1_chk19 k1_chk19.dec (fun _ h => h) k1_idx19_inb _ _ _ ?_
  refine chunk_then d L A hA k.val 19 hk (by decide) (k1_off22 k) _ _ (k1_off22_eq k) (k1_pay33 k1_pay5) (fun _ => rfl) k1_chk20 k1_chk20.dec (fun _ h => h) k1_idx20_inb _ _ _ ?_
  refine chunk_then d L A hA k.val 20 hk (by decide) (k1_off23 k) _ _ (k1_off23_eq k) (k1_pay34 k1_pay2) (fun _ => rfl) k1_chk21 k1_chk21.dec (fun _ h => h) k1_idx21_inb _ _ _ ?_
  refine chunk_then d L A hA k.val 21 hk (by decide) (k1_off24 k) _ _ (k1_off24_eq k) (k1_pay35 k1_pay3) (fun _ => rfl) k1_chk22 k1_chk22.dec (fun _ h => h) k1_idx22_inb _ _ _ ?_
  refine chunk_then d L A hA k.val 22 hk (by decide) (k1_off25 k) _ _ (k1_off25_eq k) (k1_pay36 k1_pay4) (fun _ => rfl) k1_chk23 k1_chk23.dec (fun _ h => h) k1_idx23_inb _ _ _ ?_
  refine chunk_then d L A hA k.val 23 hk (by decide) (k1_off26 k) _ _ (k1_off26_eq k) (k1_pay37 k1_pay5) (fun _ => rfl) k1_chk24 k1_chk24.dec (fun _ h => h) k1_idx24_inb _ _ _ ?_
  refine chunk_then d L A hA k.val 24 hk (by decide) (k1_off27 k) _ _ (k1_off27_eq k) (k1_pay38 k1_pay2) (fun _ => rfl) k1_chk25 k1_chk25.dec (fun _ h => h) k1_idx25_inb _ _ _ ?_
  refine chunk_then d L A hA k.val 25 hk (by decide) (k1_off28 k) _ _ (k1_off28_eq k) k1_pay6 (fun _ => rfl) k1_chk26 k1_chk26.dec (fun _ h => h) k1_idx26_inb _ _ _ ?_
  refine chunk_then d L A hA k.val 26 hk (by decide) (k1_off29 k) _ _ (k1_off29_eq k) k1_pay7 (fun _ => rfl) k1_chk27 k1_chk27.dec (fun _ h => h) k1_idx27_inb _ _ _ ?_
  refine chunk_then d L A hA k.val 27 hk (by decide) (k1_off30 k) _ _ (k1_off30_eq k) k1_pay8 (fun _ => rfl) k1_chk28 k1_chk28.dec (fun _ h => h) k1_idx28_inb _ _ _ ?_
  refine chunk_then d L A hA k.val 28 hk (by decide) (k1_off31 k) _ _ (k1_off31_eq k) k1_pay9 (fun _ => rfl) k1_chk29 k1_chk29.dec (fun _ h => h) k1_idx29_inb _ _ _ ?_
  refine chunk_then d L A hA k.val 29 hk (by decide) (k1_off32 k) _ _ (k1_off32_eq k) k1_pay10 (fun _ => rfl) k1_chk30 k1_chk30.dec (fun _ h => h) k1_idx30_inb _ _ _ ?_
  refine chunk_then d L A hA k.val 30 hk (by decide) (k1_off33 k) _ _ (k1_off33_eq k) k1_pay11 (fun _ => rfl) k1_chk31 k1_chk31.dec (fun _ h => h) k1_idx31_inb _ _ _ ?_
  refine chunk_then d L A hA k.val 31 hk (by decide) (k1_off34 k) _ _ (k1_off34_eq k) k1_pay12 (fun _ => rfl) k1_chk32 k1_chk32.dec (fun _ h => h) k1_idx32_inb _ _ _ ?_
  rw [wp_pure]
  exact fupd_intro

/-! ## Clearing -/

/-- One trip of the clearing loop clears sixteen more positions. -/
theorem body1 (h2 h3 h4 h5 h6) (k : Fin k1_t1_loop.trips) (u : Unit) :
    iprop(∃ f, ⌜∀ p : S24576.Idx, (p 0).val < 16 * k.val → f p = 0#32⌝ ∗ HPt d L f)
      ⊢ wp frame (wpE (defs₀ (F := F)) 𝒱₀ (thr d L) none) Set.univ
          (k1_t1_body L pV h2 hV h3 sA h4 sO h5 sH h6 cc1_scratch3 cc1_scoped0 k1_pay39 k u)
          fun _ => iprop(∃ f, ⌜∀ p : S24576.Idx, (p 0).val < 16 * (k.val + 1) → f p = 0#32⌝ ∗ HPt d L f) := by
  unfold k1_t1_body
  simp only [Prog.lift, Prog.bind_op, Prog.bind_ret, Prog.pure_eq_ret]
  iintro ⟨%f, %hf, Hh⟩
  iapply (wp_load 𝒱₀ (thr d L) none Set.univ (m := (sH : Memref sig .scVector .vmem S24576 .i32)) (S := Finset.univ) (Finset.subset_univ _)) $$ Hh
  iintro Hh
  iapply (wp_store 𝒱₀ (thr d L) none Set.univ (m := (sH : Memref sig .scVector .vmem S24576 .i32))
    (r := Rect.unit (s := S24576) (k1_off2 k) S16.size (k1_off2_inb k)) (Mk := Finset.univ) (S := Finset.univ) (Finset.subset_univ _)) $$ Hh
  iintro Hh
  rw [wp_ret]
  imodintro
  iexists ((sH : Memref sig .scVector .vmem S24576 .i32).access (Rect.unit (s := S24576) (k1_off2 k) S16.size (k1_off2_inb k))).write (Elt F) f k1_pay39 Finset.univ
  isplitr
  · ipureintro
    intro p hp
    have e := write_whole_slice_unit (Val := Elt F) (cc1_scratch2 : Ref sig .scVector) (k1_off2 k) S16.size (k1_off2_inb k) f k1_pay39
    refine (congrFun e p).trans ?_
    unfold updateSlice
    split
    · rfl
    · rename_i hn
      refine hf p ?_
      by_contra hge
      refine hn fun a => ?_
      obtain rfl : a = 0 := Subsingleton.elim (α := Fin 1) _ _
      have eo : k1_off2 k 0 = 16 * k.val := congrFun (k1_off2_eq k) 0
      show k1_off2 k 0 ≤ (p 0).val ∧ (p 0).val < k1_off2 k 0 + 16
      omega
  · iexact Hh

/-! ## Folding -/

theorem off37_eq : ∀ k : Fin k1_t3_loop.trips, k1_off37 k = ![k.val / 8, k.val % 8 * 16] := by decide +kernel

/-- The folded sixteen words of one trip. -/
theorem fold_load (f : IVec S24576 32) (k : ℕ) (hk : k < 384) (o0 o1 o2 o3 : Fin 1 → ℕ) (i0 i1 i2 i3)
    (h0 : o0 = ![16 * k]) (h1 : o1 = ![6144 * 0 + 16 * k + 6144]) (h2 : o2 = ![6144 * 1 + 16 * k + 6144]) (h3 : o3 = ![6144 * 2 + 16 * k + 6144])
    (x : S16.Idx) :
    k1_pay13 (F := F)
      ((sH : Memref sig .scVector .vmem S24576 .i32).view.readAt (Elt F) (Rect.unit (s := S24576) o0 S16.size i0).toLoadRect f)
      ((sH : Memref sig .scVector .vmem S24576 .i32).view.readAt (Elt F) (Rect.unit (s := S24576) o1 S16.size i1).toLoadRect f)
      ((sH : Memref sig .scVector .vmem S24576 .i32).view.readAt (Elt F) (Rect.unit (s := S24576) o2 S16.size i2).toLoadRect f)
      ((sH : Memref sig .scVector .vmem S24576 .i32).view.readAt (Elt F) (Rect.unit (s := S24576) o3 S16.size i3).toLoadRect f) x
      = foldOf f k (x 0).val := by
  subst h0 h1 h2 h3
  have hx : (x 0).val < 16 := (x 0).isLt
  have key : ∀ (o n : ℕ) (inb), n = o + (x 0).val → n < 24576 →
      (sH : Memref sig .scVector .vmem S24576 .i32).view.readAt (Elt F) (Rect.unit (s := S24576) ![o] S16.size inb).toLoadRect f x = f (pos n) := by
    intro o n inb hn hlt
    refine congrArg f ?_
    funext a
    obtain rfl : a = 0 := Subsingleton.elim (α := Fin 1) _ _
    apply Fin.ext
    show o + 1 * (x 0).val = n % 24576
    rw [Nat.mod_eq_of_lt hlt]; omega
  unfold foldOf
  exact congrArg₂ (· + ·) (congrArg₂ (· + ·) (key _ _ i0 (by omega) (by omega)) (key _ _ i1 (by omega) (by omega)))
    (congrArg₂ (· + ·) (key _ _ i2 (by omega) (by omega)) (key _ _ i3 (by omega) (by omega)))

/-- One trip of the folding loop fills sixteen more words of the table. -/
theorem body3 (h2 h3 h4 h5 h6) (f : IVec S24576 32) (k : Fin k1_t3_loop.trips) (u : Unit) :
    iprop(HPt d L f ∗ ∃ t, ⌜∀ p : S48x128.Idx, 8 * (p 0).val + (p 1).val / 16 < k.val → t p = foldOf f (8 * (p 0).val + (p 1).val / 16) ((p 1).val % 16)⌝ ∗ OPt d L t)
      ⊢ wp frame (wpE (defs₀ (F := F)) 𝒱₀ (thr d L) none) Set.univ
          (k1_t3_body L pV h2 hV h3 sA h4 sO h5 sH h6 cc1_scratch3 cc1_scoped0 k u)
          fun _ => iprop(HPt d L f ∗ ∃ t, ⌜∀ p : S48x128.Idx, 8 * (p 0).val + (p 1).val / 16 < k.val + 1 → t p = foldOf f (8 * (p 0).val + (p 1).val / 16) ((p 1).val % 16)⌝ ∗ OPt d L t) := by
  have hk : k.val < 384 := Nat.lt_of_lt_of_le k.isLt k1_t3_abs.2.1
  unfold k1_t3_body
  simp only [Prog.lift, Prog.bind_op, Prog.bind_ret, Prog.pure_eq_ret]
  iintro ⟨Hh, %t, %ht, Ho⟩
  iapply (wp_load 𝒱₀ (thr d L) none Set.univ (m := (sH : Memref sig .scVector .vmem S24576 .i32)) (S := Finset.univ) (Finset.subset_univ _)) $$ Hh
  iintro Hh
  iapply (wp_load 𝒱₀ (thr d L) none Set.univ (m := (sH : Memref sig .scVector .vmem S24576 .i32)) (S := Finset.univ) (Finset.subset_univ _)) $$ Hh
  iintro Hh
  iapply (wp_load 𝒱₀ (thr d L) none Set.univ (m := (sH : Memref sig .scVector .vmem S24576 .i32)) (S := Finset.univ) (Finset.subset_univ _)) $$ Hh
  iintro Hh
  iapply (wp_load 𝒱₀ (thr d L) none Set.univ (m := (sH : Memref sig .scVector .vmem S24576 .i32)) (S := Finset.univ) (Finset.subset_univ _)) $$ Hh
  iintro Hh
  iapply (wp_load 𝒱₀ (thr d L) none Set.univ (m := (sO : Memref sig .scVector .vmem S48x128 .i32)) (S := Finset.univ) (Finset.subset_univ _)) $$ Ho
  iintro Ho
  iapply (wp_store 𝒱₀ (thr d L) none Set.univ (m := (sO : Memref sig .scVector .vmem S48x128 .i32))
    (r := Rect.unit (s := S48x128) (k1_off37 k) S1x16.size (k1_off37_inb k)) (Mk := Finset.univ) (S := Finset.univ) (Finset.subset_univ _)) $$ Ho
  iintro Ho
  rw [wp_ret]
  imodintro
  isplitl [Hh]; · iexact Hh
  iexists _
  isplitr
  swap
  · iexact Ho
  · ipureintro
    intro p hp
    have hp0 : (p 0).val < 48 := (p 0).isLt
    have hp1 : (p 1).val < 128 := (p 1).isLt
    refine (congrFun (write_whole_slice_unit (Val := Elt F) (cc1_scratch1 : Ref sig .scVector) (k1_off37 k) S1x16.size (k1_off37_inb k) t _) p).trans ?_
    unfold updateSlice
    split
    · rename_i hin
      refine (shapeCast_addUnit_apply (d := ![16]) _ _ _).trans ?_
      refine (fold_load f k.val hk _ _ _ _ _ _ _ _ (k1_off35_eq k) (k1_off36_eq k 0) (k1_off36_eq k 1) (k1_off36_eq k 2) _).trans ?_
      have e0 := hin 0
      have e1 := hin 1
      simp only [off37_eq] at e0 e1
      have e0' : k.val / 8 ≤ (p 0).val ∧ (p 0).val < k.val / 8 + 1 := e0
      have e1' : k.val % 8 * 16 ≤ (p 1).val ∧ (p 1).val < k.val % 8 * 16 + 16 := e1
      have ex : (p 1).val - k1_off37 k 1 = (p 1).val % 16 := by
        rw [off37_eq]; show (p 1).val - k.val % 8 * 16 = _; omega
      have ek : k.val = 8 * (p 0).val + (p 1).val / 16 := by omega
      rw [← ek]
      exact congrArg (foldOf f k.val) ex
    · rename_i hn
      refine ht p ?_
      by_contra hge
      refine hn fun a => ?_
      have eo0 : k1_off37 k 0 = k.val / 8 := congrFun (off37_eq k) 0
      have eo1 : k1_off37 k 1 = k.val % 8 * 16 := congrFun (off37_eq k) 1
      match a with
      | 0 => show k1_off37 k 0 ≤ (p 0).val ∧ (p 0).val < k1_off37 k 0 + 1; omega
      | 1 => show k1_off37 k 1 ≤ (p 1).val ∧ (p 1).val < k1_off37 k 1 + 16; omega

end

end Cert.Proof.Base
-- ==== Proof.Tile.lean ====
/-
  A tile's task: fetch its block of packed words, count them, fold the counts and write its table out.
-/
module
public import proofs.«01_k».proof.Proof.Loops

@[expose] public section
noncomputable section

namespace Cert.Proof.Base

open Cert.KernelIdeal Cert.KernelIdeal.Gen
open Cert.Proof.Hist
open Idealize.ShloMosaic
open Idealize.ShloMosaic.SparseCore (S V T)
open Idealize.ShloMosaic.SparseCore.Cfg (HIx ownBufs ownSems0 ownCells ownRefs)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

section
variable (d : Dev nD) (L : grid1.Coords)

/-- Writing a view whole as one piece is writing it. -/
theorem writes_one {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  show (v.slice (Rect.whole s)).write (Elt F) f w Finset.univ = _
  funext i
  by_cases hi : ∃ x, v.emb x = i
  · obtain ⟨x, rfl⟩ := hi
    have ex : (v.slice (Rect.whole s)).emb x = v.emb x := congrArg v.emb (Rect.emb_whole_apply s x)
    rw [View.write_emb_of_mem f w (Finset.mem_univ x), ← ex]
    exact View.write_emb_of_mem (v := v.slice (Rect.whole s)) f w (Finset.mem_univ x)
  · have h1 : i ∉ v.set := fun h => hi (by simpa [View.set] using h)
    have h2 : i ∉ (v.slice (Rect.whole s)).set := fun h => hi (by
      obtain ⟨y, hy⟩ := (by simpa [View.set] using h : ∃ y, (v.slice (Rect.whole s)).emb y = i)
      exact ⟨_, hy⟩)
    rw [View.write_of_not_mem f w Finset.univ h1]
    exact View.write_of_not_mem (v := v.slice (Rect.whole s)) f w Finset.univ h2

/-- What the fetch lands: the tile's block of the packed words. -/
theorem read_pBlk (B : IVec S8x512x512 32) : (pBlk L).view.read (Elt F) B = block B (wid L) := by
  funext x
  refine (shapeCast_dropUnit_apply (d := ![128, 512])
    (((pV : Memref sig .scVector .hbm S8x512x512 .i32).view.slice (Rect.unit (s := S8x512x512) (k1_off1 L) S1x128x512.size (k1_off1_inb L))).read (Elt F) B)
    squeezes_S1x128x512_S128x512.numel_eq x).trans ?_
  have hw := wid_lt L
  have e0 : k1_off1 L 0 = wid L / 4 := congrFun (off1_eq L) 0
  have e1 : k1_off1 L 1 = wid L % 4 * 128 := congrFun (off1_eq L) 1
  have e2 : k1_off1 L 2 = 0 := congrFun (off1_eq L) 2
  have hx0 : (x 0).val < 128 := (x 0).isLt
  have hx1 : (x 1).val < 512 := (x 1).isLt
  unfold block
  refine congrArg B ?_
  funext a
  apply Fin.ext
  match a with
  | 0 => show k1_off1 L 0 + 1 * 0 = wid L / 4 % 8; omega
  | 1 => show k1_off1 L 1 + 1 * (x 0).val = (128 * (wid L % 4) + (x 0).val) % 512; omega
  | 2 => show k1_off1 L 2 + 1 * (x 1).val = (x 1).val % 512; omega

/-- What the write-out lands, on the tile's rows: its rows of all the tables. -/
theorem write_hBlk (B : IVec S8x512x512 32) (f : IVec S1536x128 32) :
    ∀ p ∈ outSet (wid L), (hBlk L).view.write (Elt F) f (table (block B (wid L))) Finset.univ p = tables B p := by
  intro p hp
  have hw : (p 0).val / 48 = wid L := (Finset.mem_filter.mp hp).2
  have ew : wid L = 2 * (L 1).val + (L 0).val := rfl
  have hp1 : (p 1).val < 128 := (p 1).isLt
  have e0 : k1_off38 L 0 = 96 * (L 1).val + 48 * (L 0).val := congrFun (k1_off38_eq L) 0
  have e1 : k1_off38 L 1 = 0 := congrFun (k1_off38_eq L) 1
  refine (congrFun (View.write_whole_slice_unit (Val := Elt F) (main_v1_scv : Ref sig .scVector) (k1_off38 L) S48x128.size (k1_off38_inb L) f _) p).trans ?_
  unfold updateSlice
  split
  · unfold tables
    rw [hw]
    refine congrArg (table (block B (wid L))) ?_
    funext a
    apply Fin.ext
    match a with
    | 0 => show (p 0).val - k1_off38 L 0 = (p 0).val % 48; omega
    | 1 => show (p 1).val - k1_off38 L 1 = (p 1).val % 128; omega
  · rename_i hn
    refine absurd (fun a => ?_) hn
    match a with
    | 0 => show k1_off38 L 0 ≤ (p 0).val ∧ (p 0).val < k1_off38 L 0 + 48; omega
    | 1 => show k1_off38 L 1 ≤ (p 1).val ∧ (p 1).val < k1_off38 L 1 + 128; omega

theorem pts_pBlk (f : Buf (Elt F) (pLoc d)) :
    ((pBlk L).view.loc (thr d L) ↦[(pBlk L).view.set]{fullShare} f : sProp 𝕄) = pLoc d ↦[inSet (wid L)]{fullShare} f := by
  rw [set_pBlk]
theorem pts_hBlk (f : Buf (Elt F) (hLoc d)) :
    ((hBlk L).view.loc (thr d L) ↦[(hBlk L).view.set]{fullShare} f : sProp 𝕄) = hLoc d ↦[outSet (wid L)]{fullShare} f := by
  rw [set_hBlk]
theorem pts_sA (f : Buf (Elt F) ((thr d L).loc cc1_scratch0)) :
    ((sA : Memref sig .scVector .vmem S128x512 .i32).view.loc (thr d L) ↦[(sA : Memref sig .scVector .vmem S128x512 .i32).view.set]{fullShare} f : sProp 𝕄)
      = (thr d L).loc cc1_scratch0 ↦{fullShare} f := by
  simp only [Memref.view_whole, View.set_whole]
theorem pts_sO (f : Buf (Elt F) ((thr d L).loc cc1_scratch1)) :
    ((sO : Memref sig .scVector .vmem S48x128 .i32).view.loc (thr d L) ↦[(sO : Memref sig .scVector .vmem S48x128 .i32).view.set]{fullShare} f : sProp 𝕄)
      = (thr d L).loc cc1_scratch1 ↦{fullShare} f := by
  simp only [Memref.view_whole, View.set_whole]

set_option maxHeartbeats 2000000 in
/-- The task on tile `L` of device `d`: it finds its block of the packed words in place and leaves its rows of the tables filled. -/
theorem tile_body (B : IVec S8x512x512 32) (hB : ∀ i, (B i).toNat ≤ 6128) (O : CellTallies nD τ sig (HIx 1)) (W : Waits sig (HIx 1))
    (hO : ∀ g, O g none = 0) :
    iprop(levAts (K (F := F)).L (K (F := F)).lev ∗ emp ∗ goOf B d (wid L)
        ∗ scopedBufs (thr d L) ∗ scopedSems0 (thr d L) ∗ owes (thr d L) O W)
      ⊢ wp frame (wpE (defs₀ (F := F)) 𝒱₀ (thr d L) none) Set.univ
          (cc1__hist_sc_kernel L pV (Memref.isWhole_whole _) hV (Memref.isWhole_whole _) sA (Memref.isWhole_whole _) sO (Memref.isWhole_whole _)
            sH (Memref.isWhole_whole _) cc1_scratch3 cc1_scoped0)
          fun _ => iprop(tdOf B d (wid L) ∗ scopedBufs (thr d L) ∗ scopedSems0 (thr d L)
            ∗ ∃ W', ⌜∀ p ∈ W', p ∈ W ∨ p.2 = none⌝ ∗ owes (thr d L) O W') := by
  simp only [cc1__hist_sc_kernel_eq_skeleton]; unfold cc1__hist_sc_kernel_skel
  rw [k1_part4_eq_skeleton]; unfold k1_part4_skel
  simp only [bind_assoc, pure_bind]
  rw [(K (F := F)).scopedBufs_V launchFacts d (cV L) (jV L), SparseCore.Cfg.scopedSems0_V (Val := Elt F) d (cV L) (jV L), sems_V, bufs_V]
  unfold goOf tdOf
  iintro ⟨#Hlv, -, ⟨Hp, %fh, Hh⟩, ⟨⟨%fa, Ha⟩, ⟨%fo, Ho⟩, ⟨%fz, Hz⟩, Hbufs⟩, ⟨Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hp' := (Entails.of_eq (pts_pBlk (F := F) d L _).symm) $$ Hp
  ihave Hh' := (Entails.of_eq (pts_hBlk (F := F) d L _).symm) $$ Hh
  ihave Ha' := (Entails.of_eq (pts_sA (F := F) d L _).symm) $$ Ha
  ihave Ho' := (Entails.of_eq (pts_sO (F := F) d L _).symm) $$ Ho
  sl_exec
  iapply (Scf.wp_for_bind frame (wpE (defs₀ (F := F)) 𝒱₀ (thr d L) none) Set.univ k1_t1_loop.lb k1_t1_loop.ub k1_t1_loop.st k1_t1_ok _ _
    (fun k _ => iprop(∃ f : IVec S24576 32, ⌜∀ p : S24576.Idx, (p 0).val < 16 * k → f p = 0#32⌝ ∗ HPt d L f))
    (fun k u => body1 d L _ _ _ _ _ k u)) $$ [Hz]
  · iexists fz; isplitr
    · ipureintro; intro p hp; omega
    · iexact Hz
  iintro %_ ⟨%f1, %hf1, Hz⟩
  sl_exec
  have eA : (sA : Memref sig .scVector .vmem S128x512 .i32).view.writes (Elt F) (sA : Memref sig .scVector .vmem S128x512 .i32).view.junk
      [⟨Rect.whole S128x512, tile_body.sl.dma0 L B⟩] = block B (wid L) :=
    (writes_one (F := F) (sA : Memref sig .scVector .vmem S128x512 .i32).view _ _).trans ((View.write_whole_univ _ _ _).trans (read_pBlk L B))
  rw [eA]
  ihave Ha := (Entails.of_eq (pts_sA (F := F) d L _)) $$ Ha'
  have hA : ∀ i, (block B (wid L) i).toNat ≤ 6128 := fun i => hB _
  have e1 : f1 = hist (block B (wid L)) 0 := hist_zero _ f1 fun p => hf1 p (p 0).isLt
  subst e1
  iapply (Scf.wp_for_bind frame (wpE (defs₀ (F := F)) 𝒱₀ (thr d L) none) Set.univ k1_t2_loop.lb k1_t2_loop.ub k1_t2_loop.st k1_t2_ok _ _
    (fun k _ => iprop(APt d L (block B (wid L)) ∗ HPt d L (hist (block B (wid L)) k)))
    (fun k u => body2 d L _ _ _ _ _ (block B (wid L)) hA k u)) $$ [Ha Hz]
  · isplitl [Ha]; · iexact Ha
    iexact Hz
  iintro %_ ⟨Ha, Hz⟩
  ihave Ho := (Entails.of_eq (pts_sO (F := F) d L _)) $$ Ho'
  iapply (Scf.wp_for_bind frame (wpE (defs₀ (F := F)) 𝒱₀ (thr d L) none) Set.univ k1_t3_loop.lb k1_t3_loop.ub k1_t3_loop.st k1_t3_ok _ _
    (fun k _ => iprop(HPt d L (hist (block B (wid L)) 128) ∗ ∃ t : IVec S48x128 32, ⌜∀ p : S48x128.Idx, 8 * (p 0).val + (p 1).val / 16 < k → t p = foldOf (hist (block B (wid L)) 128) (8 * (p 0).val + (p 1).val / 16) ((p 1).val % 16)⌝ ∗ OPt d L t))
    (fun k u => body3 d L _ _ _ _ _ (hist (block B (wid L)) 128) k u)) $$ [Ho Hz]
  · isplitl [Hz]; · iexact Hz
    iexists fo
    isplitr
    · ipureintro; intro p hp; omega
    · iexact Ho
  iintro %_ ⟨Hz, %t, %ht, Ho⟩
  have et : t = table (block B (wid L)) := funext fun p => ht p (by
    have h0 : (p 0).val < 48 := (p 0).isLt
    have h1 : (p 1).val < 128 := (p 1).isLt
    show 8 * (p 0).val + (p 1).val / 16 < 384
    omega)
  subst et
  ihave Ho' := (Entails.of_eq (pts_sO (F := F) d L _).symm) $$ Ho
  sl_exec
  have eH : ∀ p ∈ outSet (wid L), (hBlk L).view.writes (Elt F) fh [⟨Rect.whole S48x128, tile_body.sl.dma0_1 L B⟩] p = tables B p := fun p hp =>
    (congrFun (writes_one (F := F) (hBlk L).view fh (table (block B (wid L)))) p).trans (write_hBlk L B fh p hp)
  rw [wp_ret]
  imodintro
  isplitl [Hp' Hh']
  · isplitl [Hp']
    · iapply (Entails.of_eq (pts_pBlk (F := F) d L _)); iexact Hp'
    · ihave Hh := (Entails.of_eq (pts_hBlk (F := F) d L _)) $$ Hh'
      iapply (Entails.of_eq (pointsTo_congr (I := outSet (wid L)) (q := fullShare) (ℓ := hLoc d) eH))
      iexact Hh
  isplitl [Ha Ho' Hz Hbufs]
  · isplitl [Ha]; · iexists _; iexact Ha
    isplitl [Ho']
    · iexists _; iapply (Entails.of_eq (pts_sO (F := F) d L _)); iexact Ho'
    isplitl [Hz]; · iexists _; iexact Hz
    iexact Hbufs
  isplitl [Hs1 Hs2 Hsems]
  · isplitl [Hs1]; · iexact Hs1
    isplitl [Hs2]; · iexact Hs2
    iexact Hsems
  iexists _
  isplitr
  swap
  · iexact HO
  · ipureintro
    intro p hp
    rcases Finset.mem_insert.mp hp with rfl | hp
    · exact .inr rfl
    rcases Finset.mem_insert.mp hp with rfl | hp
    · exact .inr rfl
    exact .inl hp

end

end Cert.Proof.Base
-- ==== Proof.Tiles.lean ====
module
public import proofs.«01_k».proof.Proof.Tile

@[expose] public section
noncomputable section

namespace Cert.Proof.Tiles

open Cert.KernelIdeal Cert.KernelIdeal.Gen
open Cert.Proof.Hist Cert.Proof.Base
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueKit

variable {F : FTy → Type} [FloatOps F]

local notation "𝕄" => MT nD τ sig (HIx 1) (Elt F) ℕ UU ℕ

/-! ## A tile's task as the launch states it -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__hist_sc_kernel (coordsV c s)
          pV (Memref.isWhole_whole _) hV (Memref.isWhole_whole _) sA (Memref.isWhole_whole _) sO (Memref.isWhole_whole _) sH (Memref.isWhole_whole _)
          cc1_scratch3 cc1_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW, HO⟩
  isplitl [HA]
  · iexact HA
  isplitl [HB]
  · iexact HB
  isplitl [HC]
  · iexact HC
  iexists W'
  isplitr
  · ipureintro
    intro p hp
    rcases hW p hp with h | h
    · exact Or.inl h
    · exact Or.inr (Or.inl h)
  · iexact HO

variable (B : Dev nD → IVec S8x512x512 32)

set_option maxRecDepth 1024 in
/-- Every tile fills its table, when every packed word is below the histogram's end. -/
theorem tileObl (hB : ∀ d i, (B d i).toNat ≤ 6128) : (K (F := F)).TileObl (D (F := F)) 𝒱 (P B) v₀ 0 := by
  intro d c i O W hO _ _
  simp only [show (P (F := F) B).ox = fun _ _ => 0 from rfl, add_zero]
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  have hc : ((K (F := F)).core 0 c).val < grid1.bound 0 ∧ ((K (F := F)).sub 0 i).val < grid1.bound 1 := ⟨c.isLt, i.isLt⟩
  rw [defs₀_vector]
  simp only [SparseCore.onTile, hc, and_self, ↓reduceDIte]
  exact (tile_body d (coordsV ⟨_, hc.1⟩ ⟨_, hc.2⟩) (B d) (hB d) O W hO).trans (wp_mono frame _ _ fun _ => obl_post)

/-- A core's part is its tiles' parts. -/
theorem vecSplit : (K (F := F)).VecSplit' (P B) 0 := by
  intro d c
  change bigSep Finset.univ (fun i : Fin ((K (F := F)).nSub 0) => goOf (F := F) (B d) d (2 * i.val + c.val)) ⊢ |={Set.univ}=> iprop(
      bigSep Finset.univ (fun i : Fin ((K (F := F)).nSub 0) => goOf (F := F) (B d) d (2 * i.val + c.val))
      ∗ (bigSep Finset.univ (fun i : Fin ((K (F := F)).nSub 0) => tdOf (F := F) (B d) d (2 * i.val + c.val))
          -∗ bigSep Finset.univ (fun i : Fin ((K (F := F)).nSub 0) => tdOf (F := F) (B d) d (2 * i.val + c.val))))
  iintro H
  imodintro
  isplitl [H]
  · iexact H
  · iintro H
    iexact H

/-! ## The arrays cut among the tiles and put together again -/

abbrev Tiles : Type := Fin ((K (F := F)).nCore 0) × Fin ((K (F := F)).nSub 0)
/-- A tile's number. -/
abbrev num (t : Tiles (F := F)) : ℕ := 2 * t.2.val + t.1.val

theorem num_inj {t u : Tiles (F := F)} (h : num t = num u) : t = u := by
  have h1 : t.1.val < 2 := t.1.isLt
  have h2 : u.1.val < 2 := u.1.isLt
  unfold num at h
  exact Prod.ext (Fin.ext (by omega)) (Fin.ext (by omega))

theorem num_surj (w : ℕ) (hw : w < 32) : ∃ t : Tiles (F := F), num t = w :=
  ⟨(⟨w % 2, show w % 2 < 2 by omega⟩, ⟨w / 2, show w / 2 < 16 by omega⟩), show 2 * (w / 2) + w % 2 = w by omega⟩

theorem in_disjoint : ∀ t ∈ (Finset.univ : Finset (Tiles (F := F))), ∀ u ∈ (Finset.univ : Finset (Tiles (F := F))), t ≠ u →
    Disjoint (inSet (num t)) (inSet (num u)) := fun t _ u _ h => Finset.disjoint_left.mpr fun i hi hj => h (num_inj (by
  simp only [inSet, Finset.mem_filter, Finset.mem_univ, true_and] at hi hj
  omega))
theorem out_disjoint : ∀ t ∈ (Finset.univ : Finset (Tiles (F := F))), ∀ u ∈ (Finset.univ : Finset (Tiles (F := F))), t ≠ u →
    Disjoint (outSet (num t)) (outSet (num u)) := fun t _ u _ h => Finset.disjoint_left.mpr fun i hi hj => h (num_inj (by
  simp only [outSet, Finset.mem_filter, Finset.mem_univ, true_and] at hi hj
  omega))
theorem in_cover : (Finset.univ : Finset (Tiles (F := F))).biUnion (fun t => inSet (num t)) = Finset.univ := by
  ext i
  have h0 : (i 0).val < 8 := (i 0).isLt
  have h1 : (i 1).val < 512 := (i 1).isLt
  obtain ⟨t, ht⟩ := num_surj (F := F) ((i 0).val * 4 + (i 1).val / 128) (by omega)
  simp only [Finset.mem_biUnion, inSet, Finset.mem_filter, Finset.mem_univ, true_and, iff_true]
  exact ⟨t, ht.symm⟩
theorem out_cover : (Finset.univ : Finset (Tiles (F := F))).biUnion (fun t => outSet (num t)) = Finset.univ := by
  ext i
  have h0 : (i 0).val < 1536 := (i 0).isLt
  obtain ⟨t, ht⟩ := num_surj (F := F) ((i 0).val / 48) (by omega)
  simp only [Finset.mem_biUnion, outSet, Finset.mem_filter, Finset.mem_univ, true_and, iff_true]
  exact ⟨t, ht.symm⟩

theorem words_tiles (d : Dev nD) (f : Buf (Elt F) (pLoc d)) :
    (pLoc d ↦{fullShare} f : sProp 𝕄) = bigSep Finset.univ fun t : Tiles (F := F) => pLoc d ↦[inSet (num t)]{fullShare} f := by
  rw [← pointsTo_biUnion Finset.univ (ℓ := pLoc d) (fun t : Tiles (F := F) => inSet (num t)) in_disjoint, in_cover]
  try rfl
theorem rows_tiles (d : Dev nD) (f : Buf (Elt F) (hLoc d)) :
    (hLoc d ↦{fullShare} f : sProp 𝕄) = bigSep Finset.univ fun t : Tiles (F := F) => hLoc d ↦[outSet (num t)]{fullShare} f := by
  rw [← pointsTo_biUnion Finset.univ (ℓ := hLoc d) (fun t : Tiles (F := F) => outSet (num t)) out_disjoint, out_cover]
  try rfl

/-- Every tile's rows at the array's contents are rows at something. -/
theorem rows_some (d : Dev nD) (f : Buf (Elt F) (hLoc d)) :
    (bigSep Finset.univ fun t : Tiles (F := F) => hLoc d ↦[outSet (num t)]{fullShare} f : sProp 𝕄)
      ⊢ bigSep Finset.univ fun t : Tiles (F := F) => iprop(∃ g, hLoc d ↦[outSet (num t)]{fullShare} g) := by
  have h (t : Tiles (F := F)) : (hLoc d ↦[outSet (num t)]{fullShare} f : sProp 𝕄) ⊢ iprop(∃ g, hLoc d ↦[outSet (num t)]{fullShare} g) := by
    iintro H
    iexists f
    iexact H
  have hs := fun (t : Tiles (F := F)) (_ : t ∈ Finset.univ) => h t
  exact BI.bigSep_mono hs

/-- What the call takes: the words, and the tables' array at anything. -/
theorem give (d : Dev nD) : iprop((pLoc d ↦{fullShare} B d) ∗ ∃ f, hLoc d ↦{fullShare} f)
    ⊢ (bigSep Finset.univ fun c : Fin ((K (F := F)).nCore 0) => (P (F := F) B).st 0 d c : sProp 𝕄) := by
  change _ ⊢ bigSep Finset.univ fun c : Fin ((K (F := F)).nCore 0) => bigSep Finset.univ fun i : Fin ((K (F := F)).nSub 0) =>
    goOf (F := F) (B d) d (num (F := F) (c, i))
  rw [← bigSep_univ_prod (fun t : Tiles (F := F) => goOf (F := F) (B d) d (num t))]
  unfold goOf
  rw [bigSep_sep', words_tiles]
  iintro ⟨Hp, %f, Hh⟩
  isplitl [Hp]
  · iexact Hp
  · ihave Hh := (Entails.of_eq (rows_tiles d f)) $$ Hh
    ihave Hh := (rows_some d f) $$ Hh
    iexact Hh

/-- What the call gives back: the words, and the tables filled. -/
theorem take (d : Dev nD) : (bigSep Finset.univ fun c : Fin ((K (F := F)).nCore 0) => (P (F := F) B).dn 0 d c : sProp 𝕄)
    ⊢ iprop((pLoc d ↦{fullShare} B d) ∗ hLoc d ↦{fullShare} tables (B d)) := by
  change (bigSep Finset.univ fun c : Fin ((K (F := F)).nCore 0) => bigSep Finset.univ fun i : Fin ((K (F := F)).nSub 0) =>
    tdOf (F := F) (B d) d (num (F := F) (c, i))) ⊢ _
  rw [← bigSep_univ_prod (fun t : Tiles (F := F) => tdOf (F := F) (B d) d (num t))]
  unfold tdOf
  rw [bigSep_sep', words_tiles, rows_tiles]

end Cert.Proof.Tiles
end
-- ==== Proof.Argmax.lean ====
/-
  What the first TensorCore kernel leaves in a block of `packed`, element by element: the class of the largest
  score of a pixel, times 19, plus the pixel's label, times 16.
-/
module
public import proofs.«01_k».proof.Proof.Base
public import Idealize.ShloMosaic.Lib.ValueIdxCore

@[expose] public section
noncomputable section

namespace Cert.Proof.Argmax

open Cert.KernelIdeal Cert.KernelIdeal.Gen
open Idealize.ShloMosaic Idealize.ShloMosaic.ValueKit Idealize.ShloMosaic.ValueIdx

variable {F : FTy → Type} [FloatOps F]

/-- One comparison: the running maximum and its class, after class `c` with score `v`. -/
def step (s : F .f32 × BitVec 32) (v : F .f32) (c : BitVec 32) : F .f32 × BitVec 32 :=
  (Scalar.select (FloatOps.cmpf .ogt v s.1) v s.1, Scalar.select (FloatOps.cmpf .ogt v s.1) c s.2)

/-- The running maximum and its class after the classes `1 … n`, from class 0. -/
def run (x : ℕ → F .f32) : ℕ → F .f32 × BitVec 32
  | 0 => (x 0, 0#32)
  | n + 1 => step (run x n) (x (n + 1)) (BitVec.ofNat 32 (n + 1))

/-- The class of the largest of 19 scores, the first one of equals. -/
def cls (x : ℕ → F .f32) : BitVec 32 := (run x 18).2

theorem run_le (x : ℕ → F .f32) : ∀ n, n ≤ 18 → (run x n).2.toNat ≤ n
  | 0, _ => Nat.le_refl 0
  | n + 1, h => by
    have ih := run_le x n (by omega)
    show (Scalar.select _ (BitVec.ofNat 32 (n + 1)) (run x n).2).toNat ≤ n + 1
    unfold Scalar.select
    split
    · rw [BitVec.toNat_ofNat]; omega
    · omega

theorem cls_le (x : ℕ → F .f32) : (cls x).toNat ≤ 18 := run_le x 18 (Nat.le_refl _)

/-- The packed word of a pixel with scores `x` and label `y`. -/
def pack (x : ℕ → F .f32) (y : BitVec 32) : BitVec 32 := (cls x * 19#32 + y) * 16#32

/-- A pixel's packed word is 16 times its entry in the 19 × 19 table. -/
theorem pack_toNat (x : ℕ → F .f32) (y : BitVec 32) (hy : y.toNat < 19) :
    (pack x y).toNat = ((cls x).toNat * 19 + y.toNat) * 16 := by
  have h := cls_le x
  unfold pack
  rw [BitVec.toNat_mul, BitVec.toNat_add, BitVec.toNat_mul]
  simp only [BitVec.toNat_ofNat]
  omega

/-- The scores of a pixel, in a block. -/
def scores (v0 : Vec F S1x19x256x512 .f32) (p : S256x512.Idx) : ℕ → F .f32 :=
  fun c => v0 (ix4 (0 : Fin 1) (Fin.ofNat 19 c) (p 0) (p 1))

/-- The scores of class `c`, the running maxima after it and their classes, and the comparison with the next class. -/
def X (v0 : Vec F S1x19x256x512 .f32) (c : ℕ) : FVec F S256x512 .f32 := fun p => scores v0 p c
def Mx (v0 : Vec F S1x19x256x512 .f32) (c : ℕ) : FVec F S256x512 .f32 := fun p => (run (scores v0 p) c).1
def Ix (v0 : Vec F S1x19x256x512 .f32) (c : ℕ) : IVec S256x512 32 := fun p => (run (scores v0 p) c).2

theorem mx0 (v0 : Vec F S1x19x256x512 .f32) : X v0 0 = Mx v0 0 := rfl
theorem ix0' (v0 : Vec F S1x19x256x512 .f32) : (broadcast S256x512 0#32 : IVec S256x512 32) = Ix v0 0 := rfl
theorem topc (v0 : Vec F S1x19x256x512 .f32) (c d : ℕ) (h : d = c + 1) :
    select (cmpf .ogt (X v0 d) (Mx v0 c)) (X v0 d) (Mx v0 c) = Mx v0 d := by subst h; rfl
theorem clsc (v0 : Vec F S1x19x256x512 .f32) (c d : ℕ) (h : d = c + 1) :
    select (cmpf .ogt (X v0 d) (Mx v0 c)) (broadcast S256x512 (BitVec.ofNat 32 d)) (Ix v0 c) = Ix v0 d := by subst h; rfl

/-- Class `c`'s plane of a block of scores. -/
theorem plane (v0 : Vec F S1x19x256x512 .f32) (c : ℕ) (hc : c < 19) (h : S19x256x512.Slices ![c, 0, 0] S1x256x512) :
    (shapeCast S256x512 (extractStridedSlice S1x256x512 ![c, 0, 0] (k0_pay2 v0) h) shapeCasts_S1x256x512_S256x512 : FVec F S256x512 .f32)
      = X v0 c := by
  funext p
  refine (shapeCast_dropUnit_apply (d := ![256, 512]) _ _ _).trans ?_
  refine (extractStridedSlice_apply _ _ _ _ (ix3 (Fin.ofNat 19 c) (p 0) (p 1) : S19x256x512.Idx) ?_).trans ?_
  · intro a
    fin_cases a
    · show c % 19 = c + 0; omega
    · exact (Nat.zero_add _).symm
    · exact (Nat.zero_add _).symm
  · refine (shapeCast_dropUnit_apply (d := ![19, 256, 512]) _ _ _).trans ?_
    unfold X scores
    congr 1
    funext a; fin_cases a <;> rfl

/-- The block the kernel stores, from the blocks of scores and labels. -/
def outBlk (v0 : Vec F S1x19x256x512 .f32) (v2 : Vec F S1x256x512 .i32) : IVec S1x256x512 32 :=
  k0_pay1 (k0_pay2 v0) (k0_pay3 v2) (k0_pay49 (k0_pay2 v0) (k0_pay22 v0) (k0_pay23 v0) (k0_pay24 v0))
    (k0_pay51 (k0_pay2 v0) (k0_pay22 v0) (k0_pay24 v0)) (k0_pay52 (k0_pay2 v0) (k0_pay22 v0) (k0_pay24 v0)) 15#32

theorem outBlk_apply (v0 : Vec F S1x19x256x512 .f32) (v2 : Vec F S1x256x512 .i32) (j : S1x256x512.Idx) :
    outBlk v0 v2 j = pack (scores v0 (ix2 (j 1) (j 2))) (v2 (ix3 (0 : Fin 1) (j 1) (j 2))) := by
  unfold outBlk k0_pay1
  refine (shapeCast_addUnit_apply (d := ![256, 512]) _ _ _).trans ?_
  have e3 : k0_pay3 v2 = fun p : S256x512.Idx => v2 (ix3 (0 : Fin 1) (p 0) (p 1)) := by
    funext p
    refine (shapeCast_dropUnit_apply (d := ![256, 512]) _ _ _).trans ?_
    congr 1
    funext a; fin_cases a <;> rfl
  have ej : (fun a : Fin 2 => j a.succ : S256x512.Idx) = ix2 (j 1) (j 2) := by
    funext a; fin_cases a <;> rfl
  simp only [k0_pay52, k0_pay51, k0_pay50, k0_pay49, k0_pay48, k0_pay47, k0_pay46, k0_pay45, k0_pay44, k0_pay43, k0_pay42, k0_pay41, k0_pay40, k0_pay39, k0_pay38,
    k0_pay37, k0_pay36, k0_pay35, k0_pay34, k0_pay33, k0_pay32, k0_pay31, k0_pay30, k0_pay29, k0_pay28, k0_pay27, k0_pay26, k0_pay25, k0_pay24, k0_pay23,
    k0_pay22, k0_pay21, k0_pay20, k0_pay19, k0_pay18, k0_pay17, k0_pay16, k0_pay15, k0_pay14, k0_pay13, k0_pay12, k0_pay11, k0_pay10, k0_pay9, k0_pay8,
    k0_pay7, k0_pay6, k0_pay5, k0_pay4,
    e3, mx0 v0, ix0' v0,
    plane v0 0 (by omega), plane v0 1 (by omega), plane v0 2 (by omega), plane v0 3 (by omega), plane v0 4 (by omega), plane v0 5 (by omega), plane v0 6
    (by omega), plane v0 7 (by omega), plane v0 8 (by omega), plane v0 9 (by omega), plane v0 10 (by omega), plane v0 11 (by omega), plane v0 12 (by
    omega), plane v0 13 (by omega), plane v0 14 (by omega), plane v0 15 (by omega), plane v0 16 (by omega), plane v0 17 (by omega), plane v0 18 (by
    omega), topc v0 0 1 rfl, topc v0 1 2 rfl, topc v0 2 3 rfl, topc v0 3 4 rfl, topc v0 4 5 rfl, topc v0 5 6 rfl, topc v0 6 7 rfl, topc v0 7 8 rfl, topc
    v0 8 9 rfl, topc v0 9 10 rfl, topc v0 10 11 rfl, topc v0 11 12 rfl, topc v0 12 13 rfl, topc v0 13 14 rfl, topc v0 14 15 rfl, topc v0 15 16 rfl, topc
    v0 16 17 rfl, topc v0 17 18 rfl, clsc v0 0 1 rfl, clsc v0 1 2 rfl, clsc v0 2 3 rfl, clsc v0 3 4 rfl, clsc v0 4 5 rfl, clsc v0 5 6 rfl, clsc v0 6 7
    rfl, clsc v0 7 8 rfl, clsc v0 8 9 rfl, clsc v0 9 10 rfl, clsc v0 10 11 rfl, clsc v0 11 12 rfl, clsc v0 12 13 rfl, clsc v0 13 14 rfl, clsc v0 14 15
    rfl, clsc v0 15 16 rfl, clsc v0 16 17 rfl, clsc v0 17 18 rfl]
  rw [ej]
  rfl

end Cert.Proof.Argmax
end
-- ==== Proof.Bodies.lean ====
/-
  The two TensorCore kernels' bodies: each loads its whole blocks, and stores one whole block.
-/
module
public import proofs.«01_k».proof.Proof.Argmax
public import proofs.«01_k».proof.Proof.Gen.KernelIdeal.Points
public import Idealize.ShloMosaic.Lib.Memref

@[expose] public section
noncomputable section

namespace Cert.Proof.Bodies

open Cert.KernelIdeal Cert.KernelIdeal.Gen
open Cert.Proof.Base Cert.Proof.Argmax
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueKit

variable {F : FTy → Type} [FloatOps F]

local notation "𝕄" => MT nD τ sig (HIx 1) (Elt F) ℕ UU ℕ

/-! ## A whole block loaded and stored -/

section Whole

variable {c : Dev nD} {cs : CoreSpace} {s : Shape} {e : EltTy} {α : Type}

theorem unit_idx (off : Fin s.rank → ℕ) (h : off = fun _ => 0) (inb : ∀ a, off a + s.size a ≤ s.size a) (x : s.Idx) :
    (Rect.unit (s := s) off s.size inb).emb x = x := by
  subst h; exact Rect.emb_whole_apply s x

/-- A load of a whole block reads its contents. -/
theorem load_whole {M : Memref sig .tc cs s e} {X : s.Idx → Elt F e} {off : Fin s.rank → ℕ} (h : off = fun _ => 0)
    {inb : ∀ a, off a + s.size a ≤ s.size a} {hl : M.view.LoadsAt (Rect.unit (s := s) off s.size inb).toLoadRect}
    {k : (s.Idx → Elt F e) → Prog (TpuEff nD τ sig (Elt F) Λ₀ .tc) α} {Q : α → sProp 𝕄} :
    (owns (c : Thread nD τ) M fullShare X : sProp 𝕄)
      ⊢ iprop((owns (c : Thread nD τ) M fullShare X -∗ wp frame (wpE (defs₀ (F := F)) 𝒱₀ (c : Thread nD τ) none) Set.univ (k X) Q)
        -∗ wp frame (wpE (defs₀ (F := F)) 𝒱₀ (c : Thread nD τ) none) Set.univ
          (.op (.load M (Rect.unit (s := s) off s.size inb).toLoadRect hl) k) Q) := by
  unfold owns
  iintro ⟨%g, %hg, H⟩ Hk
  have hr : M.view.readAt (Elt F) (Rect.unit (s := s) off s.size inb).toLoadRect g = X := by
    funext x
    rw [View.readAt_apply, ← hg]
    exact congrArg (M.view.read (Elt F) g) (unit_idx off h inb x)
  iapply (wp_load 𝒱₀ (c : Thread nD τ) none Set.univ (m := M) (S := M.view.set) (M.view.setOn_subset_set _)) $$ H
  iintro H
  rw [hr]
  iapply Hk
  iexists g
  isplitr; · ipureintro; exact hg
  iexact H

/-- An unmasked store of a whole block leaves it at the value stored. -/
theorem store_whole {M : Memref sig .tc cs s e} {X w : s.Idx → Elt F e} {off : Fin s.rank → ℕ} (h : off = fun _ => 0)
    {inb : ∀ a, off a + s.size a ≤ s.size a} {hx : (M.access (Rect.unit (s := s) off s.size inb)).Stores Finset.univ}
    {hm : (Finset.univ : Finset (Rect.unit (s := s) off s.size inb).shape.Idx) = Finset.univ ∨ ∀ a, (Rect.unit (s := s) off s.size inb).stride a = 1}
    {k : PUnit → Prog (TpuEff nD τ sig (Elt F) Λ₀ .tc) α} {Q : α → sProp 𝕄} :
    (owns (c : Thread nD τ) M fullShare X : sProp 𝕄)
      ⊢ iprop((owns (c : Thread nD τ) M fullShare w -∗ wp frame (wpE (defs₀ (F := F)) 𝒱₀ (c : Thread nD τ) none) Set.univ (k ⟨⟩) Q)
        -∗ wp frame (wpE (defs₀ (F := F)) 𝒱₀ (c : Thread nD τ) none) Set.univ
          (.op (.store M (Rect.unit (s := s) off s.size inb) w Finset.univ hx hm) k) Q) := by
  unfold owns
  iintro ⟨%g, %hg, H⟩ Hk
  iapply (wp_store 𝒱₀ (c : Thread nD τ) none Set.univ (m := M) (r := Rect.unit (s := s) off s.size inb) (S := M.view.set)
    ((View.setOn_subset_set _ _).trans (View.set_slice_subset _ _))) $$ H
  iintro H
  iapply Hk
  iexists _
  isplitr; swap; · iexact H
  ipureintro
  funext x
  rw [View.read_apply]
  have he : M.view.emb x = (M.access (Rect.unit (s := s) off s.size inb)).emb x := congrArg M.view.emb (unit_idx off h inb x).symm
  rw [he]
  have := View.write_emb_of_mem (v := M.access (Rect.unit (s := s) off s.size inb)) (Val := Elt F) g w (M := Finset.univ) (x := x) (Finset.mem_univ _)
  rw [this]
  simp
end Whole

theorem zero2 : (![0, 0] : Fin 2 → ℕ) = fun _ => 0 := by decide
theorem zero3 : (![0, 0, 0] : Fin 3 → ℕ) = fun _ => 0 := by decide
theorem zero4 : (![0, 0, 0, 0] : Fin 4 → ℕ) = fun _ => 0 := by decide

/-- The argmax kernel on its three blocks. -/
theorem argmax_run (c : Dev nD) (i : grid0.Coords) (M2 : Memref sig .tc .vmem S1x19x256x512 .f32) (h2 : M2.IsWhole)
    (M3 : Memref sig .tc .vmem S1x256x512 .i32) (h3 : M3.IsWhole) (M4 : Memref sig .tc .vmem S1x256x512 .i32) (h4 : M4.IsWhole)
    (x : Vec F S1x19x256x512 .f32) (y z : Vec F S1x256x512 .i32) :
    (iprop(owns (c : Thread nD τ) M2 fullShare x ∗ owns (c : Thread nD τ) M3 fullShare y ∗ owns (c : Thread nD τ) M4 fullShare z) : sProp 𝕄)
      ⊢ wp frame (wpE (defs₀ (F := F)) 𝒱₀ (c : Thread nD τ) none) Set.univ (cc0__argmax_kernel i M2 h2 M3 h3 M4 h4) fun _ =>
        iprop(owns (c : Thread nD τ) M2 fullShare x ∗ owns (c : Thread nD τ) M3 fullShare y ∗ owns (c : Thread nD τ) M4 fullShare (outBlk x y)) := by
  rw [cc0__argmax_kernel_eq_skeleton]
  unfold cc0__argmax_kernel_skel
  rw [k0_part1_eq_skeleton, k0_part2_eq_skeleton]
  unfold k0_part1_skel k0_part2_skel
  simp only [Prog.lift, Prog.bind_op, Prog.bind_ret, Prog.pure_eq_ret]
  iintro ⟨H2, H3, H4⟩
  iapply (load_whole zero4) $$ H2
  iintro H2
  iapply (load_whole zero3) $$ H3
  iintro H3
  iapply (load_whole zero3) $$ H4
  iintro H4
  iapply (store_whole zero3) $$ H4
  iintro H4
  rw [wp_ret]
  imodintro
  isplitl [H2]; · iexact H2
  isplitl [H3]; · iexact H3
  iexact H4

/-- The scalar the epilogue stores, from all the tiles' tables. -/
def epi (v0 : Vec F S1536x128 .i32) : FVec F S1x1 .f32 :=
  let v4 := k2_pay2 v0
  let v33 := k2_pay3
  let c19_i32 := 19#32
  let v35 := k2_pay4
  let v42 := k2_pay5
  let v44 : BitVec 32 := Scalar.extui (Scalar.cmpi .sgt 19#32 0#32)
  let v57 := k2_pay6 v33 c19_i32 v35 v42 v44
  let v60 := k2_pay7 v33 c19_i32 v35 v42 v44
  let v88 := k2_pay8 v4 v33 c19_i32 v35 v42 v44
  let v89 := k2_pay9
  let v116 := k2_pay10 v4 v57 v60 v88 v89
  let v126 := k2_pay13 v4 v57
  let v132 := k2_pay14 v4 v60
  let v133 := k2_pay15 v57 v60
  let v134 := k2_pay16 (F := F)
  let v172 := k2_pay17 v4 v57 v60 v116 v126 v132 v133 v134
  let v174 := k2_pay18 v57
  let v176 := k2_pay19 v60
  let v179 := k2_pay20 v4 v57
  let v200 := k2_pay21 v4 v172 v174 v176 v179
  let v223 := k2_pay24 v4 v57 v60
  let v225 := k2_pay25 v4 v57 v60
  let cst_62 : F .f32 := Scalar.ofBits .f32 0x26901D7D#32
  let v256 := k2_pay26 v4 v57 v60 v200 v223 v225 cst_62
  let v258 := k2_pay27 v57
  let v260 := k2_pay28 v60
  let v266 := k2_pay29 v4 v57
  let v270 := k2_pay30 v4 v60
  let v312 := k2_pay31 v4 v57 v60 v256 v258 v260 v266 v270
  let v314 := k2_pay32 v57
  let v316 := k2_pay33 v60
  let v340 := k2_pay34 v4 v312 v314 v316
  let v350 := k2_pay37 v4 v57
  let v356 := k2_pay38 v4 v60
  let v361 := k2_pay39 v4 v57 v60
  let v396 := k2_pay40 v4 v57 v60 v340 v350 v356 v361
  let v398 := k2_pay41 v57
  let v400 := k2_pay42 v60
  let v406 := k2_pay43 v4 v57
  let cst_115 : F .f32 := Scalar.ofBits .f32 0x00000000#32
  let v452 := k2_pay44 v4 v57 v60 v396 v398 v400 v406 cst_115
  let c14_i32 := 14#32
  let v480 := k2_pay45 v4 v57 v60 v452 c14_i32
  let v490 := k2_pay48 v4 v57
  let v496 := k2_pay49 v4 v60
  let v497 := k2_pay50 v57 v60
  let cst_141 : F .f32 := Scalar.ofBits .f32 0x00000000#32
  let v536 := k2_pay51 v4 v57 v60 v480 v490 v496 v497 cst_141
  let v538 := k2_pay52 v57
  let v540 := k2_pay53 v60
  let v543 := k2_pay54 v4 v57
  let v564 := k2_pay55 v4 v536 v538 v540 v543
  let v587 := k2_pay58 v4 v57 v60
  let v589 := k2_pay59 v4 v57 v60
  k2_pay1 v564 v587 v589

/-- The epilogue on its two blocks. -/
theorem epilogue_run (c : Dev nD) (M0 : Memref sig .tc .vmem S1536x128 .i32) (h0 : M0.IsWhole) (M1 : Memref sig .tc .vmem S1x1 .f32) (h1 : M1.IsWhole)
    (x : Vec F S1536x128 .i32) (z : Vec F S1x1 .f32) :
    (iprop(owns (c : Thread nD τ) M0 fullShare x ∗ owns (c : Thread nD τ) M1 fullShare z) : sProp 𝕄)
      ⊢ wp frame (wpE (defs₀ (F := F)) 𝒱₀ (c : Thread nD τ) none) Set.univ (cc2__epilogue_kernel M0 h0 M1 h1) fun _ =>
        iprop(owns (c : Thread nD τ) M0 fullShare x ∗ owns (c : Thread nD τ) M1 fullShare (epi x)) := by
  rw [cc2__epilogue_kernel_eq_skeleton]
  unfold cc2__epilogue_kernel_skel
  rw [k2_part1_eq_skeleton, k2_part2_eq_skeleton, k2_part3_eq_skeleton, k2_part4_eq_skeleton, k2_part5_eq_skeleton, k2_part6_eq_skeleton, k2_part7_eq_skeleton, k2_part8_eq_skeleton, k2_part9_eq_skeleton, k2_part10_eq_skeleton, k2_part11_eq_skeleton, k2_part12_eq_skeleton, k2_part13_eq_skeleton]
  unfold k2_part1_skel k2_part2_skel k2_part3_skel k2_part4_skel k2_part5_skel k2_part6_skel k2_part7_skel k2_part8_skel k2_part9_skel k2_part10_skel k2_part11_skel k2_part12_skel k2_part13_skel
  simp only [Prog.lift, Prog.bind_op, Prog.bind_ret, Prog.pure_eq_ret]
  iintro ⟨H0, H1⟩
  iapply (load_whole zero2) $$ H0
  iintro H0
  iapply (load_whole zero2) $$ H1
  iintro H1
  iapply (store_whole zero2) $$ H1
  iintro H1
  rw [wp_ret]
  imodintro
  isplitl [H0]; · iexact H0
  iexact H1

end Cert.Proof.Bodies
end
-- ==== Proof.Regions.lean ====
/-
  The two TensorCore pipelines: what each starts from, what each leaves, and the runs of their bodies.
-/
module
public import proofs.«01_k».proof.Proof.Bodies
public import proofs.«01_k».proof.Proof.Gen.KernelIdeal.Launch
public import Idealize.ShloMosaic.Lib.Pipeline.Regions
public import Idealize.ShloMosaic.Lib.Pipeline.ValueKit
public import Idealize.ShloMosaic.Lib.Pipeline.RegionsLoop

@[expose] public section
noncomputable section

namespace Cert.Proof.Regions

open Cert.KernelIdeal Cert.KernelIdeal.Gen
open Cert.Proof.Hist Cert.Proof.Base Cert.Proof.Argmax Cert.Proof.Bodies
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueKit Idealize.ShloMosaic.ValueIdx
open Idealize.ShloMosaic.Pipeline (Dat Cfg Window BodyObligation)

variable {F : FTy → Type} [FloatOps F]

local notation "𝕄" => MT nD τ sig (HIx 1) (Elt F) ℕ UU ℕ

/-! ## The contents of the buffers, step by step -/

/-- The packed words of all pixels, from the scores and the labels. -/
def packed (x : FVec F S8x19x512x512 .f32) (y : IVec S8x512x512 32) : IVec S8x512x512 32 := fun i =>
  pack (fun c => x (ValueIdx.ix4 (i 0) (Fin.ofNat 19 c) (i 1) (i 2))) (y i)

theorem packed_le (x : FVec F S8x19x512x512 .f32) (y : IVec S8x512x512 32) (hy : ∀ i, (y i).toNat < 19) (i : S8x512x512.Idx) :
    (packed x y i).toNat ≤ 6128 := by
  unfold packed
  rw [pack_toNat _ _ (hy i)]
  have := cls_le (fun c => x (ValueIdx.ix4 (i 0) (Fin.ofNat 19 c) (i 1) (i 2)))
  have := hy i
  omega

variable (m : (ℓ : Loc nD τ sig) → Buf (Elt F) ℓ)

/-- A core's buffers at launch, -/
abbrev V0 (c : Dev nD) : Valuation τ sig (Elt F) := fun b => m (c, b)
abbrev argX (c : Dev nD) : FVec F S8x19x512x512 .f32 := V0 m c (Proc.devRef .tc main_arg0)
abbrev argY (c : Dev nD) : IVec S8x512x512 32 := V0 m c (Proc.devRef .tc main_arg1)
/-- the packed words the first pipeline leaves, -/
def pk (c : Dev nD) : IVec S8x512x512 32 := packed (argX m c) (argY m c)
/-- the buffers after the first pipeline, -/
def V1 (c : Dev nD) : Valuation τ sig (Elt F) := Function.update (V0 m c) (Proc.devRef .tc main_v0) (pk m c)
/-- after the SparseCore call, -/
def V2 (c : Dev nD) : Valuation τ sig (Elt F) := Function.update (V1 m c) (Proc.devRef .tc main_v1) (tables (pk m c))
/-- and after the second pipeline. -/
def V3 (c : Dev nD) : Valuation τ sig (Elt F) := Function.update (V2 m c) (Proc.devRef .tc main_v2) (epi (tables (pk m c)))

theorem devRef_ne {b b' : Ref sig .tc} (h : b ≠ b') : (Proc.devRef .tc b : DevRef τ sig) ≠ Proc.devRef .tc b' :=
  StableHlo.devRef_ne_of_ne h

theorem V1_at (c : Dev nD) : V1 m c (Proc.devRef .tc main_v0) = pk m c := Function.update_self ..
theorem V1_ne (c : Dev nD) (b : Ref sig .tc) (h : b ≠ main_v0) : V1 m c (Proc.devRef .tc b) = V0 m c (Proc.devRef .tc b) :=
  Function.update_of_ne (devRef_ne h) ..
theorem V2_at (c : Dev nD) : V2 m c (Proc.devRef .tc main_v1) = tables (pk m c) := Function.update_self ..
theorem V2_ne (c : Dev nD) (b : Ref sig .tc) (h : b ≠ main_v1) : V2 m c (Proc.devRef .tc b) = V1 m c (Proc.devRef .tc b) :=
  Function.update_of_ne (devRef_ne h) ..
theorem V3_at (c : Dev nD) : V3 m c (Proc.devRef .tc main_v2) = epi (tables (pk m c)) := Function.update_self ..
theorem V3_ne (c : Dev nD) (b : Ref sig .tc) (h : b ≠ main_v2) : V3 m c (Proc.devRef .tc b) = V2 m c (Proc.devRef .tc b) :=
  Function.update_of_ne (devRef_ne h) ..

/-! ## The pipelines' data -/

/-- The blocks of scores and labels the argmax kernel finds at a point. -/
abbrev xBlk (c : Dev nD) (t : Fin cfg0.N) : Vec F S1x19x256x512 .f32 := ((cfg0.win 0).blk t).view.read (Elt F) (argX m c)
abbrev yBlk (c : Dev nD) (t : Fin cfg0.N) : Vec F S1x256x512 .i32 := ((cfg0.win 1).blk t).view.read (Elt F) (argY m c)

/-- The pairs a core's waits have recorded before the launch's call `n`. -/
def below (c : Dev nD) (n : ℕ) : Set (SemLoc sig × HIx 1) := {p | (K (F := F)).lev ((c : Thread nD τ), p.1) p.2 ≤ n}

/-- The argmax pipeline's data. -/
def dat0 (c : Dev nD) : Dat τ (Elt F) (HIx 1) ℕ UU ℕ cfg0 c where
  A w := V0 m c (Proc.devRef .tc (Pipeline.arrRef spec0 w))
  after w t := match w with
    | ⟨0, _⟩ => xBlk m c t
    | ⟨1, _⟩ => yBlk m c t
    | ⟨2, _⟩ => outBlk (xBlk m c t) (yBlk m c t)
  Φ _ := Pipeline.scopedRest (Ix := HIx 1) (Name := ℕ) (U := UU) (Lvl := ℕ) (Val := Elt F) spec0 c
  q _ := fullShare
  owed _ := (K (F := F)).Otc c 0
  recorded _ := below (F := F) c 0

/-- The epilogue pipeline's data. -/
def dat2 (c : Dev nD) : Dat τ (Elt F) (HIx 1) ℕ UU ℕ cfg2 c where
  A w := V2 m c (Proc.devRef .tc (Pipeline.arrRef spec2 w))
  after w _ := match w with
    | ⟨0, _⟩ => tables (pk m c)
    | ⟨1, _⟩ => epi (F := F) (tables (pk m c))
  Φ _ := Pipeline.scopedRest (Ix := HIx 1) (Name := ℕ) (U := UU) (Lvl := ℕ) (Val := Elt F) spec2 c
  q _ := fullShare
  owed _ := (K (F := F)).Otc c 1
  recorded _ := below (F := F) c 8

/-- Both pipelines' data. -/
def dats : (p : Fin 2) → (c : Dev nD) → Dat τ (Elt F) (HIx 1) ℕ UU ℕ (cfgs p) c
  | ⟨0, _⟩, c => dat0 m c
  | ⟨1, _⟩, c => dat2 m c
  | ⟨_ + 2, h⟩, _ => absurd h (Nat.not_lt.2 (Nat.le_add_left _ _))

theorem A0_eq (c : Dev nD) (w : Fin cfg0.W) : (dat0 m c).A w = V0 m c (Proc.devRef .tc (Pipeline.arrRef spec0 w)) := by
  dsimp only [dat0]
theorem A2_eq (c : Dev nD) (w : Fin cfg2.W) : (dat2 m c).A w = V2 m c (Proc.devRef .tc (Pipeline.arrRef spec2 w)) := by
  dsimp only [dat2]

theorem before0_0 (c : Dev nD) (t : Fin cfg0.N) (d) : (dat0 m c).before 0 t d = xBlk m c t := by
  unfold Dat.before; rw [if_pos (fetch0_0 t)]; rfl
theorem before0_1 (c : Dev nD) (t : Fin cfg0.N) (d) : (dat0 m c).before 1 t d = yBlk m c t := by
  unfold Dat.before; rw [if_pos (fetch0_1 t)]; rfl

/-- The argmax kernel's body, at every point. -/
theorem body0 (c : Dev nD) : BodyObligation (dat0 m c) (defs₀ (F := F)) 𝒱₀ (none : HIx 1) Set.univ := fun t => by
  rw [bigSep_W0, bigSep_W0]
  rw [show (dat0 m c).Φ t.castSucc = (dat0 m c).Φ t.succ from rfl,
    show (dat0 m c).owesAt (none : HIx 1) t.castSucc = (dat0 m c).owesAt none t.succ from rfl]
  iintro ⟨HΦ, HO, ⟨%d0, H0⟩, ⟨%d1, H1⟩, ⟨%d2, H2⟩⟩
  rw [before0_0, before0_1]
  have h := argmax_run (F := F) c (grid0.coords t) (win0_0.stage (cfg0.slots t 0)) (hstage0_0 ((cfg0.slots t 0).cast nbuf0_0)) (win0_1.stage (cfg0.slots t 1))
    (hstage0_1 ((cfg0.slots t 1).cast nbuf0_1)) (win0_2.stage (cfg0.slots t 2)) (hstage0_2 ((cfg0.slots t 2).cast nbuf0_2))
    (xBlk m c t) (yBlk m c t) ((dat0 m c).before 2 t d2)
  have hw := (BIClass.sep_mono (.rfl : iprop((dat0 m c).Φ t.succ ∗ (dat0 m c).owesAt none t.succ) ⊢ _) h).trans
    (wp_frame_l frame (wpE (defs₀ (F := F)) 𝒱₀ (c : Thread nD τ) none) Set.univ)
  refine BIBase.Entails.trans ?_ (hw.trans (wp_mono frame _ _ fun _ => ?_))
  · iintro ⟨⟨⟨⟨HΦ, HO⟩, H0⟩, H1⟩, H2⟩
    isplitl [HΦ HO]
    · isplitl [HΦ]
      · iexact HΦ
      · iexact HO
    · isplitl [H0]
      · iexact H0
      · isplitl [H1]
        · iexact H1
        · iexact H2
  · iintro ⟨⟨HΦ, HO⟩, H0, H1, H2⟩
    isplitl [HΦ]
    · iexact HΦ
    · isplitl [HO]
      · iexact HO
      · isplitl [H0]
        · iexact H0
        · isplitl [H1]
          · iexact H1
          · iexact H2

/-- The input block of the epilogue's window is the whole array. -/
theorem idx2 : ∀ t : Fin cfg2.N, win2_0.index t = ![0, 0] ∧ win2_1.index t = ![0, 0] :=
  (by decide +kernel : ∀ t : Fin grid2.N, _)

theorem read2_0 (G : IVec S1536x128 32) : ((cfg2.win 0).blk t2_0).view.read (Elt F) G = G := by
  blk_ext! [idx2 t2_0]

theorem before2_0 (c : Dev nD) (t : Fin cfg2.N) (d) : (dat2 m c).before 0 t d = tables (pk m c) := by
  unfold Dat.before; rw [if_pos (fetch2_0 t)]
  obtain rfl := fin_N2 t
  exact (congrArg (((cfg2.win 0).blk t2_0).view.read (Elt F)) (V2_at m c)).trans (read2_0 _)

/-- The epilogue kernel's body, at its one point. -/
theorem body2 (c : Dev nD) : BodyObligation (dat2 m c) (defs₀ (F := F)) 𝒱₀ (none : HIx 1) Set.univ := fun t => by
  rw [bigSep_W2, bigSep_W2]
  rw [show (dat2 m c).Φ t.castSucc = (dat2 m c).Φ t.succ from rfl,
    show (dat2 m c).owesAt (none : HIx 1) t.castSucc = (dat2 m c).owesAt none t.succ from rfl]
  iintro ⟨HΦ, HO, ⟨%d0, H0⟩, ⟨%d1, H1⟩⟩
  rw [before2_0]
  have h := epilogue_run (F := F) c (win2_0.stage (cfg2.slots t 0)) (hstage2_0 0) (win2_1.stage (cfg2.slots t 1)) (hstage2_1 0)
    (tables (pk m c)) ((dat2 m c).before 1 t d1)
  have hw := (BIClass.sep_mono (.rfl : iprop((dat2 m c).Φ t.succ ∗ (dat2 m c).owesAt none t.succ) ⊢ _) h).trans
    (wp_frame_l frame (wpE (defs₀ (F := F)) 𝒱₀ (c : Thread nD τ) none) Set.univ)
  refine BIBase.Entails.trans ?_ (hw.trans (wp_mono frame _ _ fun _ => ?_))
  · iintro ⟨⟨⟨HΦ, HO⟩, H0⟩, H1⟩
    isplitl [HΦ HO]
    · isplitl [HΦ]
      · iexact HΦ
      · iexact HO
    · isplitl [H0]
      · iexact H0
      · iexact H1
  · iintro ⟨⟨HΦ, HO⟩, H0, H1⟩
    isplitl [HΦ]
    · iexact HΦ
    · isplitl [HO]
      · iexact HO
      · isplitl [H0]
        · iexact H0
        · iexact H1

/-! ## What the pipelines leave in their arrays -/

/-- The blocks' places at each point of the argmax pipeline. -/
theorem idx0 : ∀ t : Fin cfg0.N, win0_0.index t = ![(win0_2.index t) 0, 0, (win0_2.index t) 1, 0] ∧ win0_1.index t = win0_2.index t ∧ (win0_2.index t) 2 = 0 :=
  (by decide +kernel : ∀ t : Fin grid0.N, _)

/-- What each window's staging holds after a point. -/
theorem after0_2 (c : Dev nD) (t : Fin cfg0.N) : (dat0 m c).after 2 t = outBlk (xBlk m c t) (yBlk m c t) := rfl
theorem after2_1 (c : Dev nD) (t : Fin cfg2.N) : (dat2 m c).after 1 t = epi (F := F) (tables (pk m c)) := rfl

/-- A score of a block is a score of the array, -/
theorem xBlk_apply (c : Dev nD) (t : Fin cfg0.N) (y : S1x256x512.Idx) (k : ℕ) :
    xBlk m c t (ValueIdx.ix4 0 (Fin.ofNat 19 k) (y 1) (y 2))
      = argX m c (ValueIdx.ix4 ((win0_2.blk t).view.emb y 0) (Fin.ofNat 19 k) ((win0_2.blk t).view.emb y 1) ((win0_2.blk t).view.emb y 2)) := by
  unfold xBlk
  blk_simp
  congr 1
  funext a
  apply Fin.ext
  have h0 : (y 0).val = 0 := by have := (y 0).isLt; change _ < 1 at this; omega
  obtain ⟨e0, e1, e2⟩ := idx0 t
  match a with
  | ⟨0, _⟩ =>
    change _ = ((win0_2.blk t).view.emb y 0).val
    blk_simp
    exact congrFun e0 0
  | ⟨1, _⟩ =>
    change _ = (Fin.ofNat 19 k).val
    blk_simp
    rw [show win0_0.index t 1 = 0 from congrFun e0 1]
    exact (congrArg (· + _) (Nat.zero_mul 19)).trans (Nat.zero_add _)
  | ⟨2, _⟩ =>
    change _ = ((win0_2.blk t).view.emb y 1).val
    blk_simp
    rw [show win0_0.index t 2 = win0_2.index t 1 from congrFun e0 2]
  | ⟨3, _⟩ =>
    change _ = ((win0_2.blk t).view.emb y 2).val
    blk_simp
    rw [show win0_0.index t 3 = 0 from congrFun e0 3, e2]

/-- and a label of a block a label of the array. -/
theorem yBlk_apply (c : Dev nD) (t : Fin cfg0.N) (y : S1x256x512.Idx) :
    yBlk m c t (ValueIdx.ix3 0 (y 1) (y 2)) = argY m c ((win0_2.blk t).view.emb y) := by
  unfold yBlk
  blk_simp
  congr 1
  funext a
  apply Fin.ext
  have h0 : (y 0).val = 0 := by have := (y 0).isLt; change _ < 1 at this; omega
  obtain ⟨e0, e1, e2⟩ := idx0 t
  match a with
  | ⟨0, _⟩ =>
    blk_simp
    rw [e1]
  | ⟨1, _⟩ =>
    blk_simp
    rw [e1]
    rfl
  | ⟨2, _⟩ =>
    blk_simp
    rw [e1]
    rfl

theorem final0 (c : Dev nD) : (dat0 m c).arrAt 2 cfg0.N = pk m c := by
  refine (dat0 m c).arrAt_eq_of_covers 2 (pk m c) (by decide +kernel) fun t hf y => ?_
  blk_simp
  rw [after0_2]
  refine (outBlk_apply _ _ y).trans ?_
  unfold pk packed
  exact congrArg₂ pack (funext fun k => xBlk_apply m c t y k) (yBlk_apply m c t y)

theorem final2 (c : Dev nD) : (dat2 m c).arrAt 1 cfg2.N = epi (F := F) (tables (pk m c)) := by
  refine (dat2 m c).arrAt_eq_of_after_last 1 t2_0 (by decide +kernel) _ fun j => ?_
  blk_simp
  rw [after2_1]

end Cert.Proof.Regions
end
-- ==== Proof.Segs.lean ====
module
public import proofs.«01_k».proof.Proof.Regions

@[expose] public section
noncomputable section

namespace Cert.Proof.Regions

open Cert.KernelIdeal Cert.KernelIdeal.Gen
open Cert.Proof.Hist Cert.Proof.Base Cert.Proof.Argmax Cert.Proof.Bodies
open Idealize.ShloMosaic
open Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.ValueKit Idealize.ShloMosaic.ValueIdx
open Idealize.ShloMosaic.Pipeline (Dat Cfg Window BodyObligation)

variable {F : FTy → Type} [FloatOps F]

local notation "𝕄" => MT nD τ sig (HIx 1) (Elt F) ℕ UU ℕ

variable (m : (ℓ : Loc nD τ sig) → Buf (Elt F) ℓ)

/-! ## The two regions of the program -/

theorem Otc_none (d : Dev nD) (n : ℕ) (g : GSem nD τ sig) : (K (F := F)).Otc d n g none = 0 := by
  unfold SparseCore.Cfg.Otc
  simp only [Finset.sum_apply, Finsupp.coe_finset_sum]
  refine Finset.sum_eq_zero fun q _ => ?_
  split
  · simp only [Finset.sum_apply, Finsupp.coe_finset_sum]
    exact Finset.sum_eq_zero fun c _ => by rw [tallyAt_apply]; simp
  · rfl

abbrev adm : (p : Fin 2) → (pcfgs (F := F) p).Adm := fun p => (cfgs p).toPCfg_adm

/-- What a core owes before the launch's call `n`, its waits so far below that call. -/
def owesTc (c : Dev nD) (n : ℕ) : sProp 𝕄 :=
  iprop(∃ W, ⌜(K (F := F)).WBelow (c : Thread nD τ) W (8 * n)⌝ ∗ owes (c : Thread nD τ) ((K (F := F)).Otc c n) W)

theorem owesAt0_intro (c : Dev nD) : owesTc (F := F) c 0 ⊢ (dat0 m c).owesAt (none : HIx 1) 0 := by
  unfold owesTc Pipeline.Dat.owesAt Pipeline.owesWithin
  iintro ⟨%W, %hW, HO⟩
  iexists W
  isplitr
  · ipureintro
    exact fun p hp => Or.inl (hW p hp)
  · iexact HO

theorem owesAt0_elim (c : Dev nD) : (dat0 m c).owesAt (none : HIx 1) (Fin.last cfg0.N) ⊢ owesTc (F := F) c 0 := by
  unfold owesTc Pipeline.Dat.owesAt Pipeline.owesWithin
  iintro ⟨%W, %hW, HO⟩
  iexists W
  isplitr
  · ipureintro
    intro p hp
    rcases hW hp with h | ⟨w, s, h⟩
    · exact h
    · subst h
      exact Nat.zero_le _
  · iexact HO

/-- The window's arrays at the region's end are the buffers after it, -/
theorem finalArr0 (c : Dev nD) : ∀ w : Fin cfg0.W, (dat0 m c).arrAt w cfg0.N = V1 m c (Proc.devRef .tc (Pipeline.arrRef spec0 w))
  | ⟨0, _⟩ => ((dat0 m c).arrAt_in 0 rfl _).trans (V1_ne m c main_arg0 (by decide)).symm
  | ⟨1, _⟩ => ((dat0 m c).arrAt_in 1 rfl _).trans (V1_ne m c main_arg1 (by decide)).symm
  | ⟨2, _⟩ => (final0 m c).trans (V1_at m c).symm

/-- and no other buffer changed. -/
theorem rest0 (c : Dev nD) (b : Ref sig .tc) (h : b ∉ Finset.univ.image (Pipeline.arrRef spec0)) :
    V1 m c (Proc.devRef .tc b) = V0 m c (Proc.devRef .tc b) :=
  V1_ne m c b fun e => h (e ▸ (by decide : main_v0 ∈ Finset.univ.image (Pipeline.arrRef spec0)))

set_option backward.isDefEq.respectTransparency.types false in
/-- Region 0 takes its arrays out of the core's buffers, -/
theorem enter0 (c : Dev nD) : (unscopedBufs c (fun b => V0 m c (Proc.devRef .tc b)) : sProp 𝕄)
    ⊢ iprop((dats m 0 c).arrays ((dats m 0 c).arrAt · 0) ∗ Pipeline.unscopedRest spec0 c (fun b => V0 m c (Proc.devRef .tc b))) :=
  Pipeline.arrays_of_unscopedBufs (p := 0) (pcfgs (F := F)) adm (dats m) launch0.win launch0.arr_whole c
      ((dats m 0 c).share_full fun _ => rfl) (fun b => V0 m c (Proc.devRef .tc b)) (A0_eq m c)

set_option backward.isDefEq.respectTransparency.types false in
/-- and puts them back as it left them. -/
theorem leave0 (c : Dev nD) : iprop((dats m 0 c).arrays ((dats m 0 c).arrAt · cfg0.N) ∗ Pipeline.unscopedRest spec0 c (fun b => V0 m c (Proc.devRef .tc b)))
    ⊢ (unscopedBufs c (fun b => V1 m c (Proc.devRef .tc b)) : sProp 𝕄) :=
  Pipeline.unscopedBufs_of_arrays (p := 0) (pcfgs (F := F)) adm launch0.win launch0.arr_whole c (dats m) ((dats m 0 c).share_full fun _ => rfl)
        (fun b => V0 m c (Proc.devRef .tc b)) (fun b => V1 m c (Proc.devRef .tc b)) (fun w => (dat0 m c).arrAt w cfg0.N) (finalArr0 m c) (rest0 m c)

set_option backward.isDefEq.respectTransparency.types false in
/-- Pipeline 0 as a region of the program. -/
def reg0 : Pipeline.RegionSeg (pcfgs (F := F)) adm (dats m) (none : HIx 1) defs₀ 𝒱₀ (K (F := F)).L (K (F := F)).lev 0 where
  win := launch0.win.to₀
  block_pos := launch0.block_pos
  stage_whole := launch0.stage_whole
  K := PEmpty
  osem := fun i => i.elim
  ho := .none _
  hbody c := (body0 m c).loose
  hwaits c := Pipeline.cellsWaits_intro _ _ _ _ _ fun w s t => (K (F := F)).mayWait_none _ (Otc_none c 0)
  pre c := iprop(unscopedBufs c (fun b => V0 m c (Proc.devRef .tc b)) ∗ owesTc (F := F) c 0)
  post c := iprop(unscopedBufs c (fun b => V1 m c (Proc.devRef .tc b)) ∗ owesTc (F := F) c 0)
  X _ := BI.emp
  Y _ := BI.emp
  Z c := Pipeline.unscopedRest spec0 c (fun b => V0 m c (Proc.devRef .tc b))
  hentry c := by
    have hsplit := enter0 m c
    have howe := owesAt0_intro m c
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · ihave H := howe $$ HO
      iexact H
    isplitr
    · iempintro
    · iexact HZ
  hin c := by
    rw [show (dats m 0 c).Φ 0 = Pipeline.scopedRest spec0 c from rfl]
    iintro ⟨-, -, Hr⟩
    iexact Hr
  hout c := by
    rw [Pipeline.ownSems0_none]
    change Pipeline.scopedRest spec0 c ⊢ _
    iintro Hr
    isplitr
    · iempintro
    isplitr
    · iempintro
    · iexact Hr
  hexit c := by
    have hjoin := leave0 m c
    have howe : (dats m 0 c).owesAt (none : HIx 1) (Fin.last (Pipeline.pin (pcfgs (F := F)) adm 0).N) ⊢ owesTc (F := F) c 0 := owesAt0_elim m c
    iintro ⟨Ha, HO, -, HZ⟩
    imodintro
    isplitl [Ha HZ]
    · iapply hjoin
      isplitl [Ha]
      · iexact Ha
      · iexact HZ
    · ihave H := howe $$ HO
      iexact H

theorem owesAt2_intro (c : Dev nD) : owesTc (F := F) c 1 ⊢ (dat2 m c).owesAt (none : HIx 1) 0 := by
  unfold owesTc Pipeline.Dat.owesAt Pipeline.owesWithin
  iintro ⟨%W, %hW, HO⟩
  iexists W
  isplitr
  · ipureintro
    exact fun p hp => Or.inl (hW p hp)
  · iexact HO

theorem owesAt2_elim (c : Dev nD) : (dat2 m c).owesAt (none : HIx 1) (Fin.last cfg2.N) ⊢ owesTc (F := F) c 1 := by
  unfold owesTc Pipeline.Dat.owesAt Pipeline.owesWithin
  iintro ⟨%W, %hW, HO⟩
  iexists W
  isplitr
  · ipureintro
    intro p hp
    rcases hW hp with h | ⟨w, s, h⟩
    · exact h
    · subst h
      exact Nat.zero_le _
  · iexact HO

/-- The window's arrays at the region's end are the buffers after it, -/
theorem finalArr2 (c : Dev nD) : ∀ w : Fin cfg2.W, (dat2 m c).arrAt w cfg2.N = V3 m c (Proc.devRef .tc (Pipeline.arrRef spec2 w))
  | ⟨0, _⟩ => ((dat2 m c).arrAt_in 0 rfl _).trans (V3_ne m c main_v1 (by decide)).symm
  | ⟨1, _⟩ => (final2 m c).trans (V3_at m c).symm

/-- and no other buffer changed. -/
theorem rest2 (c : Dev nD) (b : Ref sig .tc) (h : b ∉ Finset.univ.image (Pipeline.arrRef spec2)) :
    V3 m c (Proc.devRef .tc b) = V2 m c (Proc.devRef .tc b) :=
  V3_ne m c b fun e => h (e ▸ (by decide : main_v2 ∈ Finset.univ.image (Pipeline.arrRef spec2)))

set_option backward.isDefEq.respectTransparency.types false in
/-- Region 2 takes its arrays out of the core's buffers, -/
theorem enter2 (c : Dev nD) : (unscopedBufs c (fun b => V2 m c (Proc.devRef .tc b)) : sProp 𝕄)
    ⊢ iprop((dats m 1 c).arrays ((dats m 1 c).arrAt · 0) ∗ Pipeline.unscopedRest spec2 c (fun b => V2 m c (Proc.devRef .tc b))) :=
  Pipeline.arrays_of_unscopedBufs (p := 1) (pcfgs (F := F)) adm (dats m) launch2.win launch2.arr_whole c
      ((dats m 1 c).share_full fun _ => rfl) (fun b => V2 m c (Proc.devRef .tc b)) (A2_eq m c)

set_option backward.isDefEq.respectTransparency.types false in
/-- and puts them back as it left them. -/
theorem leave2 (c : Dev nD) : iprop((dats m 1 c).arrays ((dats m 1 c).arrAt · cfg2.N) ∗ Pipeline.unscopedRest spec2 c (fun b => V2 m c (Proc.devRef .tc b)))
    ⊢ (unscopedBufs c (fun b => V3 m c (Proc.devRef .tc b)) : sProp 𝕄) :=
  Pipeline.unscopedBufs_of_arrays (p := 1) (pcfgs (F := F)) adm launch2.win launch2.arr_whole c (dats m) ((dats m 1 c).share_full fun _ => rfl)
        (fun b => V2 m c (Proc.devRef .tc b)) (fun b => V3 m c (Proc.devRef .tc b)) (fun w => (dat2 m c).arrAt w cfg2.N) (finalArr2 m c) (rest2 m c)

set_option backward.isDefEq.respectTransparency.types false in
/-- Pipeline 1 as a region of the program. -/
def reg1 : Pipeline.RegionSeg (pcfgs (F := F)) adm (dats m) (none : HIx 1) defs₀ 𝒱₀ (K (F := F)).L (K (F := F)).lev 1 where
  win := launch2.win.to₀
  block_pos := launch2.block_pos
  stage_whole := launch2.stage_whole
  K := PEmpty
  osem := fun i => i.elim
  ho := .none _
  hbody c := (body2 m c).loose
  hwaits c := Pipeline.cellsWaits_intro _ _ _ _ _ fun w s t => (K (F := F)).mayWait_none _ (Otc_none c 1)
  pre c := iprop(unscopedBufs c (fun b => V2 m c (Proc.devRef .tc b)) ∗ owesTc (F := F) c 1)
  post c := iprop(unscopedBufs c (fun b => V3 m c (Proc.devRef .tc b)) ∗ owesTc (F := F) c 1)
  X _ := BI.emp
  Y _ := BI.emp
  Z c := Pipeline.unscopedRest spec2 c (fun b => V2 m c (Proc.devRef .tc b))
  hentry c := by
    have hsplit := enter2 m c
    have howe := owesAt2_intro m c
    iintro ⟨⟨Hub, HO⟩, -, -⟩
    ihave H := hsplit $$ Hub
    icases H with ⟨Ha, HZ⟩
    imodintro
    isplitl [Ha]; · iexact Ha
    isplitr; · unfold Pipeline.prefHeld; rw [show (Finset.univ : Finset (Fin 0)) = ∅ from rfl, BI.bigSep_empty]; iempintro
    isplitl [HO]
    · ihave H := howe $$ HO
      iexact H
    isplitr
    · iempintro
    · iexact HZ
  hin c := by
    rw [show (dats m 1 c).Φ 0 = Pipeline.scopedRest spec2 c from rfl]
    iintro ⟨-, -, Hr⟩
    iexact Hr
  hout c := by
    rw [Pipeline.ownSems0_none]
    change Pipeline.scopedRest spec2 c ⊢ _
    iintro Hr
    isplitr
    · iempintro
    isplitr
    · iempintro
    · iexact Hr
  hexit c := by
    have hjoin := leave2 m c
    have howe : (dats m 1 c).owesAt (none : HIx 1) (Fin.last (Pipeline.pin (pcfgs (F := F)) adm 1).N) ⊢ owesTc (F := F) c 1 := owesAt2_elim m c
    iintro ⟨Ha, HO, -, HZ⟩
    imodintro
    isplitl [Ha HZ]
    · iapply hjoin
      isplitl [Ha]
      · iexact Ha
      · iexact HZ
    · ihave H := howe $$ HO
      iexact H

end Cert.Proof.Regions
end
-- ==== Proof.Main.lean ====
module
public import proofs.«01_k».proof.Proof.Tiles
public import proofs.«01_k».proof.Proof.Segs
public import Idealize.ShloMosaic.Lib.StableHlo.Run
public import Idealize.ShloMosaic.Lib.SparseCore.Quiescent

@[expose] public section
noncomputable section

namespace Cert.Proof.Main

open Cert.KernelIdeal Cert.KernelIdeal.Gen
open Cert.Proof.Hist Cert.Proof.Base Cert.Proof.Bodies Cert.Proof.Regions Cert.Proof.Tiles
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic Idealize.ShloMosaic.ValueKit

variable {F : FTy → Type} [FloatOps F]

local notation "𝕄" => MT nD τ sig (HIx 1) (Elt F) ℕ UU ℕ

variable (m : (ℓ : Loc nD τ sig) → Buf (Elt F) ℓ) (ρ : Dev nD → PrngReg)

/-! ## The operations after the last kernel -/

/-- The host's six operations: the tables summed into the matrix of counts, and the loss read out. -/
def hostOps : List (HloOp τ sig (Elt F)) := [
  StableHlo.reshape main_v1 main_v3 (rfl : (.i32 : EltTy) = .i32) shapeCasts_S1536x128_S32x384x16,
  StableHlo.nullary main_c (constantI S_ 32 0#32),
  StableHlo.binary main_v3 main_c main_v4 ((fun x v => Host.reduce IntOp.addi x v reducesTo_S32x384x16_S384_d0_2 h_S_) : (⟨S32x384x16, .i32⟩ : BufTy).Contents (Elt F) → (⟨S_, .i32⟩ : BufTy).Contents (Elt F) → (⟨S384, .i32⟩ : BufTy).Contents (Elt F)),
  StableHlo.reshape main_v2 main_v5 (rfl : (.f32 : EltTy) = .f32) shapeCasts_S1x1_S_,
  StableHlo.unary main_v4 main_v6 ((extractStridedSlice S361 ![0] · slices_S384_S361_0) : (⟨S384, .i32⟩ : BufTy).Contents (Elt F) → (⟨S361, .i32⟩ : BufTy).Contents (Elt F)),
  StableHlo.reshape main_v6 main_v7 (rfl : (.i32 : EltTy) = .i32) shapeCasts_S361_S19x19]

theorem main_eq (d : Dev nD) : main (F := F) d = (Prog.lift (.customCall (SparseCore.inner (Pipeline.entry 0)) ()) >>= fun _ => (K (F := F)).run d 0 >>= fun _ =>
    Prog.lift (.customCall (SparseCore.inner (Pipeline.entry 1)) ()) >>= fun _ => StableHlo.seq hostOps >>= fun _ => pure ⟨⟩) := by
  rfl

/-- The buffers at the end. -/
def Vend (c : Dev nD) : Valuation τ sig (Elt F) := StableHlo.after hostOps (V3 m c)

/-! ## The core's buffers as the host's operations hold them -/

def ucRefs : Finset (DevRef τ sig) := (StableHlo.tcRefs τ sig).filter fun b => ¬ b.isScoped

theorem unscopedBufs_held (c : Dev nD) (W : Valuation τ sig (Elt F)) :
    (unscopedBufs c (fun b => W (Proc.devRef .tc b)) : sProp 𝕄) = StableHlo.held c.tc ucRefs W := by
  unfold unscopedBufs StableHlo.held ucRefs StableHlo.tcRefs
  rw [Finset.filter_map, bigSep_map]
  rfl

theorem hostOps_sub : (hostOps (F := F)).Forall fun op => op.bufs ⊆ StableHlo.tcRefs τ sig := by
  unfold hostOps
  exact ⟨StableHlo.reshape_bufs_sub .., StableHlo.nullary_bufs_sub .., StableHlo.binary_bufs_sub .., StableHlo.reshape_bufs_sub .., StableHlo.unary_bufs_sub ..,
    StableHlo.reshape_bufs_sub ..⟩

theorem hostOps_bufs : ∀ op ∈ (hostOps (F := F)), op.bufs ⊆ ucRefs := fun op h b hb =>
  Finset.mem_filter.mpr ⟨(List.forall_iff_forall_mem.mp hostOps_sub) op h hb, fun h' => Bool.false_ne_true ((op.no_scoped b hb).symm.trans h')⟩

theorem hostOps_fresh : ∀ op ∈ (hostOps (F := F)), op.fresh = ∅ := by
  intro op h
  fin_cases h <;> rfl

/-! ## The call's arrays out of the core's buffers, and back -/

abbrev uRefs : Finset (Ref sig .tc) := Finset.univ.filter fun b : Ref sig .tc => ¬ b.isScoped

theorem bufs_split (d : Dev nD) (W : (b : Ref sig .tc) → Buf (Elt F) ((d.tc : Thread nD τ).loc b)) :
    (unscopedBufs d W : sProp 𝕄) = iprop((pLoc d ↦{fullShare} W main_v0) ∗ (hLoc d ↦{fullShare} W main_v1)
      ∗ bigSep ((uRefs.erase main_v0).erase main_v1) fun b => ((d.tc : Thread nD τ).loc b) ↦{fullShare} W b) := by
  unfold unscopedBufs
  rw [SparseCore.bigSep_erase' (show main_v0 ∈ uRefs by decide), SparseCore.bigSep_erase' (show main_v1 ∈ uRefs.erase main_v0 by decide)]

theorem call_in (d : Dev nD) : (unscopedBufs d (fun b => V1 m d (Proc.devRef .tc b)) : sProp 𝕄)
    ⊢ iprop((bigSep Finset.univ fun c : Fin ((K (F := F)).nCore 0) => (P (F := F) (pk m)).st 0 d c)
      ∗ bigSep ((uRefs.erase main_v0).erase main_v1) fun b => ((d.tc : Thread nD τ).loc b) ↦{fullShare} V1 m d (Proc.devRef .tc b)) := by
  have hg := give (F := F) (pk m) d
  rw [bufs_split, V1_at]
  iintro ⟨Hp, Hh, Hr⟩
  isplitl [Hp Hh]
  · iapply hg
    isplitl [Hp]
    · iexact Hp
    · iexists _
      iexact Hh
  · iexact Hr

theorem call_out (d : Dev nD) : iprop((bigSep Finset.univ fun c : Fin ((K (F := F)).nCore 0) => (P (F := F) (pk m)).dn 0 d c)
      ∗ bigSep ((uRefs.erase main_v0).erase main_v1) fun b => ((d.tc : Thread nD τ).loc b) ↦{fullShare} V1 m d (Proc.devRef .tc b))
    ⊢ (unscopedBufs d (fun b => V2 m d (Proc.devRef .tc b)) : sProp 𝕄) := by
  have ht := take (F := F) (pk m) d
  have hr : (bigSep ((uRefs.erase main_v0).erase main_v1) fun b => ((d.tc : Thread nD τ).loc b) ↦{fullShare} V1 m d (Proc.devRef .tc b) : sProp 𝕄)
      = bigSep ((uRefs.erase main_v0).erase main_v1) fun b => ((d.tc : Thread nD τ).loc b) ↦{fullShare} V2 m d (Proc.devRef .tc b) :=
    bigSep_congr fun b hb => by rw [V2_ne m d b (Finset.ne_of_mem_erase hb)]
  rw [bufs_split, V2_at, hr, V2_ne m d main_v0 (by decide), V1_at]
  iintro ⟨Hd, Hr⟩
  ihave H := ht $$ Hd
  icases H with ⟨Hp, Hh⟩
  isplitl [Hp]
  · iexact Hp
  isplitl [Hh]
  · iexact Hh
  · iexact Hr

/-! ## A pipeline's call in the program -/

/-- The pipelines' own state at launch, on a core. -/
abbrev ghost (p : Fin 2) (c : Dev nD) : sProp 𝕄 :=
  iprop(Pipeline.cellsGhost (Pipeline.pin (pcfgs (F := F)) adm) EP p c ∗ Pipeline.toksInit (Pipeline.pin (pcfgs (F := F)) adm) EP p c)

set_option backward.isDefEq.respectTransparency.types false in
theorem region_call {p : Fin 2} [∀ e, Nonempty (Elt F e)]
    (R : Pipeline.RegionSeg (pcfgs (F := F)) adm (dats m) (none : HIx 1) defs₀ 𝒱₀ (K (F := F)).L (K (F := F)).lev p) (c : Dev nD) {Φ : PUnit → sProp 𝕄} :
    iprop((iprop(boundary (c.tc : Thread nD τ) ∗ R.post c) -∗ Φ ⟨⟩)
        ∗ boundary (c.tc : Thread nD τ) ∗ R.pre c ∗ levAts (K (F := F)).L (K (F := F)).lev ∗ ghost p c)
      ⊢ wp frame (wpE ((K (F := F)).defs (D (F := F))) 𝒱 (c.tc : Thread nD τ) none) Set.univ (Prog.lift (.customCall (SparseCore.inner (Pipeline.entry p)) ())) Φ := by
  refine BIBase.Entails.trans ?_ ((K (F := F)).wp_liftProg (D (F := F)) 𝒱 (c.tc : Thread nD τ) Set.univ none (.op (.customCall (Pipeline.entry p) ()) .ret) Φ)
  refine BIBase.Entails.trans ?_ (Pipeline.RegionSeg.wp (pcfgs (F := F)) adm (dats m) (none : HIx 1) cellOf_inj EP defs₀ 𝒱₀ (K (F := F)).L (K (F := F)).lev R c
    none (fun u hu => nomatch hu) .ret Φ)
  iintro ⟨Hk, Hb, Hp, Hl, Hg, Ht⟩
  isplitl [Hk]
  · iintro H
    rw [wp_ret]
    imodintro
    iapply Hk
    iexact H
  isplitl [Hb]
  · iexact Hb
  isplitl [Hp]
  · iexact Hp
  isplitl [Hl]
  · iexact Hl
  isplitl [Hg]
  · iexact Hg
  · iexact Ht

/-- What a core holds at the end: every buffer of the program, at its final contents. -/
abbrev FIN (d : Dev nD) : sProp 𝕄 := StableHlo.held d.tc ucRefs (Vend m d)
/-- Both pipelines' state on a core. -/
abbrev G (d : Dev nD) : sProp 𝕄 := iprop(ghost (F := F) 0 d ∗ ghost (F := F) 1 d)

/-- The part of a core's state between calls other than what it owes. -/
def rest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0
          ∗ cred (tallyAt ((K (F := F)).doneCell d) (some q) 1)))

theorem tcSt_eq (d : Dev nD) (n : ℕ) : ((K (F := F)).tcSt EH d n : sProp 𝕄) = iprop(owesTc (F := F) d n ∗ rest (F := F) d n) := rfl

set_option backward.isDefEq.respectTransparency.types false in
/-- The program on a core: pipeline, SparseCore call, pipeline, host operations. -/
theorem hmain [∀ e, Nonempty (Elt F e)] (κ : GSem nD τ sig → ℕ) (d : Dev nD) :
    iprop((K (F := F)).ctx EH (P (F := F) (pk m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  have h0 : ∀ Φ : PUnit → sProp 𝕄, iprop((iprop(boundary (d.tc : Thread nD τ) ∗ unscopedBufs d (fun b => V1 m d (Proc.devRef .tc b)) ∗ owesTc (F := F) d 0) -∗ Φ ⟨⟩)
        ∗ boundary (d.tc : Thread nD τ) ∗ (unscopedBufs d (fun b => V0 m d (Proc.devRef .tc b)) ∗ owesTc (F := F) d 0)
        ∗ levAts (K (F := F)).L (K (F := F)).lev ∗ ghost 0 d)
      ⊢ wp frame (wpE ((K (F := F)).defs (D (F := F))) 𝒱 (d.tc : Thread nD τ) none) Set.univ (Prog.lift (.customCall (SparseCore.inner (Pipeline.entry 0)) ())) Φ :=
    fun Φ => region_call m (reg0 m) d (Φ := Φ)
  have h1 : ∀ Φ : PUnit → sProp 𝕄, iprop((iprop(boundary (d.tc : Thread nD τ) ∗ unscopedBufs d (fun b => V3 m d (Proc.devRef .tc b)) ∗ owesTc (F := F) d 1) -∗ Φ ⟨⟩)
        ∗ boundary (d.tc : Thread nD τ) ∗ (unscopedBufs d (fun b => V2 m d (Proc.devRef .tc b)) ∗ owesTc (F := F) d 1)
        ∗ levAts (K (F := F)).L (K (F := F)).lev ∗ ghost 1 d)
      ⊢ wp frame (wpE ((K (F := F)).defs (D (F := F))) 𝒱 (d.tc : Thread nD τ) none) Set.univ (Prog.lift (.customCall (SparseCore.inner (Pipeline.entry 1)) ())) Φ :=
    fun Φ => region_call m (reg1 m) d (Φ := Φ)
  have hr : ∀ Φ : PUnit → sProp 𝕄, iprop((K (F := F)).ctx EH (P (F := F) (pk m)) κ ∗ (owesTc (F := F) d 0 ∗ rest (F := F) d 0)
        ∗ (bigSep Finset.univ fun c : Fin ((K (F := F)).nCore 0) => (P (F := F) (pk m)).st 0 d c)
        ∗ (((owesTc (F := F) d 1 ∗ rest (F := F) d 1) ∗ bigSep Finset.univ fun c : Fin ((K (F := F)).nCore 0) => (P (F := F) (pk m)).dn 0 d c) -∗ Φ ⟨⟩))
      ⊢ wp frame (wpE ((K (F := F)).defs (D (F := F))) 𝒱 (d.tc : Thread nD τ) none) Set.univ ((K (F := F)).run d 0) Φ :=
    fun Φ => (K (F := F)).wp_run (D (F := F)) 𝒱 (EH := EH) (P := P (F := F) (pk m)) κ d 0
  have hi := call_in m d
  have ho := call_out m d
  rw [main_eq, wp_bind, tcSt_eq]
  unfold SparseCore.Cfg.tcRes SparseCore.Cfg.tcEnd
  iintro ⟨#Hctx, ⟨HO, Hst⟩, ⟨Hb, Hu, Hts, -⟩, ⟨Hg0, Hg1⟩⟩
  ihave #Hl := (SparseCore.Cfg.ctx_levAts κ) $$ Hctx
  iapply (h0 _)
  isplitr [Hb HO Hu Hg0]
  · iintro ⟨Hb, Hu, HO⟩
    rw [wp_bind]
    ihave Hi := hi $$ Hu
    icases Hi with ⟨Hs, Hr⟩
    iapply (hr _)
    isplitr
    · iexact Hctx
    isplitl [HO Hst]
    · isplitl [HO]
      · iexact HO
      · iexact Hst
    isplitl [Hs]
    · iexact Hs
    iintro ⟨Hst, Hdn⟩
    rw [wp_bind]
    ihave Hu := ho $$ [Hdn Hr]
    · isplitl [Hdn]
      · iexact Hdn
      · iexact Hr
    icases Hst with ⟨HO, Hst⟩
    iapply (h1 _)
    isplitr [Hb HO Hu Hg1]
    · iintro ⟨Hb, Hu, HO⟩
      ihave Hh := (Entails.of_eq (unscopedBufs_held d (V3 m d))) $$ Hu
      iapply (StableHlo.wp_seq (bd := none) 𝒱 Set.univ d ucRefs (fun _ => pure ⟨⟩) hostOps hostOps_bufs hostOps_fresh (V3 m d)) $$ [Hb Hh]
      · isplitl [Hb]
        · iexact Hb
        · iexact Hh
      · iintro ⟨Hb, Hh⟩
        rw [wp_pure]
        imodintro
        isplitl [HO Hst]
        · iapply (Entails.of_eq (tcSt_eq (F := F) d 1).symm)
          isplitl [HO]
          · iexact HO
          · iexact Hst
        isplitl [Hh]
        · iexact Hh
        isplitl [Hb]
        · iexact Hb
        · iexact Hts
    · isplitl [Hb]
      · iexact Hb
      isplitl [HO Hu]
      · isplitl [Hu]
        · iexact Hu
        · iexact HO
      isplitr
      · iexact Hl
      · iexact Hg1
  · isplitl [Hb]
    · iexact Hb
    isplitl [HO Hu]
    · isplitl [Hu]
      · iexact Hu
      · iexact HO
    isplitr
    · iexact Hl
    · iexact Hg0

/-! ## The launch's own resources -/

/-- The pipelines at one configuration each. -/
abbrev pins := Pipeline.pin (pcfgs (F := F)) adm

/-- The handshakes' cells and tokens, and the pipelines'. -/
def u₀ : UU := (initOf (K (F := F)).hsCells (K (F := F)).hsToks,
  (initOf (Pipeline.cells (pins (F := F)) cellOf_inj) (Pipeline.launchToks (pins (F := F)) cellOf_inj), 1))

theorem ownU_split (a : UH) (b : UB) : (ownU (a, (b, 1)) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, 1))))

set_option backward.isDefEq.respectTransparency.types false in
theorem ghosts : iprop((bigSep Finset.univ fun c : Dev nD => bigSep Finset.univ fun p => Pipeline.cellsGhost (pins (F := F)) EP p c)
    ∗ (bigSep Finset.univ fun c : Dev nD => bigSep Finset.univ fun p => (Pipeline.toksInit (pins (F := F)) EP p c : sProp 𝕄)))
    ⊢ bigSep Finset.univ (G (F := F)) := by
  have h (c : Dev nD) : iprop((bigSep Finset.univ fun p => Pipeline.cellsGhost (pins (F := F)) EP p c)
      ∗ (bigSep Finset.univ fun p => (Pipeline.toksInit (pins (F := F)) EP p c : sProp 𝕄))) ⊢ G (F := F) c := by
    rw [bigSep_W2, bigSep_W2]
    iintro ⟨⟨H0, H1⟩, ⟨T0, T1⟩⟩
    isplitl [H0 T0]
    · isplitl [H0]
      · iexact H0
      · iexact T0
    · isplitl [H1]
      · iexact H1
      · iexact T1
  have hs := fun (c : Dev nD) (_ : c ∈ Finset.univ) => h c
  rw [← bigSep_sep']
  exact BI.bigSep_mono hs

set_option backward.isDefEq.respectTransparency.types false in
theorem hu₀ (B : Dev nD → IVec S8x512x512 32) : (ownU (u₀ (F := F)) : sProp 𝕄)
    ⊢ |={Set.univ}=> iprop(BI.own (EH (initOf (K (F := F)).hsCells (K (F := F)).hsToks)) ∗ bigSep Finset.univ (G (F := F))
        ∗ bigSep Finset.univ fun thr : Thread nD τ => bigSep Finset.univ fun q : Fin 1 => (P (F := F) B).x q thr) := by
  have hf := Pipeline.fund_ghost (pins (F := F)) (EP (F := F)) cellOf_inj
  have hx : (bigSep Finset.univ fun thr : Thread nD τ => bigSep Finset.univ fun q : Fin 1 => (P (F := F) B).x q thr : sProp 𝕄) = BI.emp := by
    change (bigSep Finset.univ fun thr : Thread nD τ => bigSep Finset.univ fun q : Fin 1 => (BI.emp : sProp 𝕄)) = _
    simp only [BI.bigSep_emp_const]
  rw [hx]
  unfold u₀
  iintro Hu
  ihave H := (ownU_split _ _) $$ Hu
  icases H with ⟨HH, HP⟩
  imod hf $$ HP with HG
  imodintro
  isplitl [HH]
  · iexact HH
  isplitl [HG]
  · iapply (ghosts (F := F))
    iexact HG
  · iempintro

/-! ## The run -/

/-- What the final memory holds: every buffer of the program at its final contents. -/
def fq (d : Dev nD) (s' : Phys nD τ sig (Elt F)) : Prop := ∀ b ∈ ucRefs, s'.mem.mem (d, b) = Vend m d b

/-- If each member of a family, read beside one resource, tells a fact, then the whole family tells all the facts. -/
theorem facts_of_each {I : Type} [DecidableEq I] {Φ : I → sProp 𝕄} {R : sProp 𝕄} {q : I → Prop} (A : Finset I)
    (h : ∀ i, iprop(Φ i ∗ R) ⊢ (⌜q i⌝ : sProp 𝕄)) : iprop(bigSep A Φ ∗ R) ⊢ (⌜∀ i ∈ A, q i⌝ : sProp 𝕄) := by
  have each : ∀ i ∈ A, iprop(bigSep A Φ ∗ R) ⊢ (⌜q i⌝ : sProp 𝕄) := by
    intro i hi
    rw [SparseCore.bigSep_erase' hi]
    refine (show iprop((Φ i ∗ bigSep (A.erase i) Φ) ∗ R) ⊢ _ from ?_)
    iintro ⟨⟨Hi, -⟩, HR⟩
    iapply (h i)
    isplitl [Hi] <;> iassumption
  by_cases hq : ∀ i ∈ A, q i
  · iintro -
    ipureintro
    exact hq
  · push Not at hq
    obtain ⟨i, hi, hn⟩ := hq
    refine (each i hi).trans ?_
    iintro %hqi
    exact absurd hqi hn

theorem hfin (d : Dev nD) (s' : Phys nD τ sig (Elt F)) : iprop(FIN m d ∗ SI s') ⊢ (⌜fq m d s'⌝ : sProp 𝕄) := by
  have h (b : DevRef τ sig) : iprop(((d, b) ↦{fullShare} Vend m d b) ∗ SI s') ⊢ (⌜s'.mem.mem (d, b) = Vend m d b⌝ : sProp 𝕄) := by
    iintro ⟨Hp, HSI⟩
    ihave H := (SI_pointsTo_agree (st := s') (ℓ := (d, b)) (I := Finset.univ) (q := fullShare) (f := Vend m d b)) $$ [HSI Hp]
    · isplitl [HSI] <;> iassumption
    icases H with %h
    ipureintro
    exact funext fun i => h i (Finset.mem_univ i)
  exact facts_of_each ucRefs h

def QC : PUnit × MemSt nD τ sig (Elt F) → Prop := fun r => (∀ d, ∀ b ∈ ucRefs, r.2.mem (d, b) = Vend m d b) ∧ r.2.sem = fun _ => 0

theorem run_main [∀ e, Nonempty (Elt F e)] (hpre : ∀ d i, (argY m d i).toNat < 19) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (F := F) (pk m)) (A := ∅) launchFacts v₀
    (fun q hq => match q with | 0 => nomatch hq)
    (fun q _ => match q with | 0 => tileObl (pk m) fun d i => packed_le _ _ (hpre d) i)
    (fun q _ => match q with | 0 => SparseCore.Cfg.VecSplit.of_plain (vecSplit (pk m)))
    m ρ main (G (F := F)) (FIN m) (u₀ (F := F)) (sep_elim_left.trans (hu₀ (pk m))) (hmain m ρ) (fq m) (hfin m) (QC m) (fun _ h hz => ⟨h, hz⟩)

end Cert.Proof.Main
end
-- ==== Proof.Reference.lean ====
module
public import proofs.«01_k».proof.Defs
public import proofs.«01_k».proof.Proof.Gen.ReferenceIdeal
public import Idealize.ShloMosaic.Lib.StableHlo.Run
public import Idealize.ShloMosaic.Lib.StableHlo.RunRead
public import Idealize.ShloMosaic.PureOps.Ideal.Laws

@[expose] public section
set_option maxRecDepth 4000
noncomputable section

namespace Cert.Proof.Ref

open Cert.ReferenceIdeal Cert.ReferenceIdeal.Gen
open Idealize.ShloMosaic Idealize.SL.Sem

variable {F : FTy → Type} [FloatOps F]

/-! ## The reference's operations, in four stretches -/

/-- The largest score of each pixel, folded over the classes with their numbers. -/
def best (x : FVec F S8x19x512x512 .f32) (k : IVec S8x19x512x512 32) (u : FVec F S_ .f32) (v : IVec S_ 32) : FVec F S8x512x512 .f32 := fun j =>
  (Host.argReduce reducer_argmax_f32_i32 x k u v reducesTo_S8x19x512x512_S8x512x512_d1 h_S_ j).1

/-- The class of the largest score of each pixel, folded over the classes with their numbers. -/
def bestAt (x : FVec F S8x19x512x512 .f32) (k : IVec S8x19x512x512 32) (u : FVec F S_ .f32) (v : IVec S_ 32) : IVec S8x512x512 32 := fun j =>
  (Host.argReduce reducer_argmax_f32_i32 x k u v reducesTo_S8x19x512x512_S8x512x512_d1 h_S_ j).2

/-- Two columns beside each other. -/
def cat (a b : IVec S2097152x1 32) : IVec S2097152x2 32 :=
  concatenate S2097152x2 1 [⟨S2097152x1, a⟩, ⟨S2097152x1, b⟩] concatenates_S2097152x1_S2097152x1_S2097152x2_d1

/-- From the arguments to the pixels' classes and labels, each in one row. -/
def opsA : List (HloOp τ sig (Elt F)) := [
  StableHlo.nullary main_call0_v0 (iotaInDim S8x19x512x512 32 1),
  StableHlo.nullary main_call0_cst (constant S_ .f32 0xFF800000#32),
  StableHlo.nullary main_call0_c (constantI S_ 32 0#32),
  StableHlo.quaternary main_arg0 main_call0_v0 main_call0_cst main_call0_c main_call0_v1_0 best,
  StableHlo.quaternary main_arg0 main_call0_v0 main_call0_cst main_call0_c main_v0 bestAt,
  StableHlo.reshape main_v0 main_v1 (rfl : (.i32 : EltTy) = .i32) shapeCasts_S8x512x512_S2097152,
  StableHlo.reshape main_arg1 main_v2 (rfl : (.i32 : EltTy) = .i32) shapeCasts_S8x512x512_S2097152]

/-- From the classes and labels, each in one row, to the matrix of counts. -/
def opsK : List (HloOp τ sig (Elt F)) := [
  StableHlo.nullary main_c (constantI S_ 32 1#32),
  StableHlo.unary main_c main_v3 (broadcastInDim S2097152 ![] bcast_S_S2097152 : (⟨S_, .i32⟩ : BufTy).Contents (Elt F) → (⟨S2097152, .i32⟩ : BufTy).Contents (Elt F)),
  StableHlo.nullary main_c_0 (constantI S_ 32 0#32),
  StableHlo.unary main_c_0 main_v4 (broadcastInDim S19x19 ![] bcast_S_S19x19 : (⟨S_, .i32⟩ : BufTy).Contents (Elt F) → (⟨S19x19, .i32⟩ : BufTy).Contents (Elt F)),
  StableHlo.nullary main_c_1 (constantI S_ 32 0#32),
  StableHlo.unary main_c_1 main_v5 (broadcastInDim S2097152 ![] bcast_S_S2097152 : (⟨S_, .i32⟩ : BufTy).Contents (Elt F) → (⟨S2097152, .i32⟩ : BufTy).Contents (Elt F)),
  StableHlo.binary main_v1 main_v5 main_v6 (cmpi .slt : (⟨S2097152, .i32⟩ : BufTy).Contents (Elt F) → (⟨S2097152, .i32⟩ : BufTy).Contents (Elt F) → (⟨S2097152, .i1⟩ : BufTy).Contents (Elt F)),
  StableHlo.nullary main_c_2 (constantI S_ 32 19#32),
  StableHlo.unary main_c_2 main_v7 (broadcastInDim S2097152 ![] bcast_S_S2097152 : (⟨S_, .i32⟩ : BufTy).Contents (Elt F) → (⟨S2097152, .i32⟩ : BufTy).Contents (Elt F)),
  StableHlo.binary main_v1 main_v7 main_v8 (addi : (⟨S2097152, .i32⟩ : BufTy).Contents (Elt F) → (⟨S2097152, .i32⟩ : BufTy).Contents (Elt F) → (⟨S2097152, .i32⟩ : BufTy).Contents (Elt F)),
  StableHlo.ternary main_v6 main_v8 main_v1 main_v9 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
  StableHlo.nullary main_c_3 (constantI S_ 32 0#32),
  StableHlo.unary main_c_3 main_v10 (broadcastInDim S2097152 ![] bcast_S_S2097152 : (⟨S_, .i32⟩ : BufTy).Contents (Elt F) → (⟨S2097152, .i32⟩ : BufTy).Contents (Elt F)),
  StableHlo.binary main_v2 main_v10 main_v11 (cmpi .slt : (⟨S2097152, .i32⟩ : BufTy).Contents (Elt F) → (⟨S2097152, .i32⟩ : BufTy).Contents (Elt F) → (⟨S2097152, .i1⟩ : BufTy).Contents (Elt F)),
  StableHlo.nullary main_c_4 (constantI S_ 32 19#32),
  StableHlo.unary main_c_4 main_v12 (broadcastInDim S2097152 ![] bcast_S_S2097152 : (⟨S_, .i32⟩ : BufTy).Contents (Elt F) → (⟨S2097152, .i32⟩ : BufTy).Contents (Elt F)),
  StableHlo.binary main_v2 main_v12 main_v13 (addi : (⟨S2097152, .i32⟩ : BufTy).Contents (Elt F) → (⟨S2097152, .i32⟩ : BufTy).Contents (Elt F) → (⟨S2097152, .i32⟩ : BufTy).Contents (Elt F)),
  StableHlo.ternary main_v11 main_v13 main_v2 main_v14 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
  StableHlo.unary main_v9 main_v15 (broadcastInDim S2097152x1 ![0] bcast_S2097152_S2097152x1_0 : (⟨S2097152, .i32⟩ : BufTy).Contents (Elt F) → (⟨S2097152x1, .i32⟩ : BufTy).Contents (Elt F)),
  StableHlo.unary main_v14 main_v16 (broadcastInDim S2097152x1 ![0] bcast_S2097152_S2097152x1_0 : (⟨S2097152, .i32⟩ : BufTy).Contents (Elt F) → (⟨S2097152x1, .i32⟩ : BufTy).Contents (Elt F)),
  StableHlo.binary main_v15 main_v16 main_v17 (cat : (⟨S2097152x1, .i32⟩ : BufTy).Contents (Elt F) → (⟨S2097152x1, .i32⟩ : BufTy).Contents (Elt F) → (⟨S2097152x2, .i32⟩ : BufTy).Contents (Elt F)),
  StableHlo.ternary main_v4 main_v17 main_v3 main_v18 ((fun x i u => Host.scatter scatter_S19x19_S2097152x2_S2097152_n_01_01_1 IntOp.addi x i u) : (⟨S19x19, .i32⟩ : BufTy).Contents (Elt F) → (⟨S2097152x2, .i32⟩ : BufTy).Contents (Elt F) → (⟨S2097152, .i32⟩ : BufTy).Contents (Elt F) → (⟨S19x19, .i32⟩ : BufTy).Contents (Elt F))]

/-- From the counts to the mean ratio. -/
def opsB : List (HloOp τ sig (Elt F)) := [
  StableHlo.unary main_v18 main_v19 (sitofp .f32 : (⟨S19x19, .i32⟩ : BufTy).Contents (Elt F) → (⟨S19x19, .f32⟩ : BufTy).Contents (Elt F)),
  StableHlo.nullary main_v20 (iotaInDim S19x19 32 0),
  StableHlo.nullary main_v21 (iotaInDim S19x19 32 1),
  StableHlo.nullary main_c_5 (constantI S_ 32 0#32),
  StableHlo.unary main_c_5 main_v22 (broadcastInDim S19x19 ![] bcast_S_S19x19 : (⟨S_, .i32⟩ : BufTy).Contents (Elt F) → (⟨S19x19, .i32⟩ : BufTy).Contents (Elt F)),
  StableHlo.binary main_v20 main_v22 main_v23 (addi : (⟨S19x19, .i32⟩ : BufTy).Contents (Elt F) → (⟨S19x19, .i32⟩ : BufTy).Contents (Elt F) → (⟨S19x19, .i32⟩ : BufTy).Contents (Elt F)),
  StableHlo.binary main_v23 main_v21 main_v24 (cmpi .eq : (⟨S19x19, .i32⟩ : BufTy).Contents (Elt F) → (⟨S19x19, .i32⟩ : BufTy).Contents (Elt F) → (⟨S19x19, .i1⟩ : BufTy).Contents (Elt F)),
  StableHlo.nullary main_cst (constant S_ .f32 0x00000000#32),
  StableHlo.unary main_cst main_call1_v0 id,
  StableHlo.unary main_call1_v0 main_call1_v1 (broadcastInDim S19x19 ![] bcast_S_S19x19),
  StableHlo.ternary main_v24 main_v19 main_call1_v1 main_v25 select,
  StableHlo.nullary main_cst_6 (constant S_ .f32 0x00000000#32),
  StableHlo.binary main_v25 main_cst_6 main_v26 ((fun x v => Host.reduceAdd x v reducesTo_S19x19_S19_d1 h_S_) : (⟨S19x19, .f32⟩ : BufTy).Contents (Elt F) → (⟨S_, .f32⟩ : BufTy).Contents (Elt F) → (⟨S19, .f32⟩ : BufTy).Contents (Elt F)),
  StableHlo.nullary main_cst_7 (constant S_ .f32 0x00000000#32),
  StableHlo.binary main_v19 main_cst_7 main_v27 ((fun x v => Host.reduceAdd x v reducesTo_S19x19_S19_d1 h_S_) : (⟨S19x19, .f32⟩ : BufTy).Contents (Elt F) → (⟨S_, .f32⟩ : BufTy).Contents (Elt F) → (⟨S19, .f32⟩ : BufTy).Contents (Elt F)),
  StableHlo.binary main_v27 main_v26 main_v28 (subf : (⟨S19, .f32⟩ : BufTy).Contents (Elt F) → (⟨S19, .f32⟩ : BufTy).Contents (Elt F) → (⟨S19, .f32⟩ : BufTy).Contents (Elt F)),
  StableHlo.nullary main_cst_8 (constant S_ .f32 0x00000000#32),
  StableHlo.binary main_v19 main_cst_8 main_v29 ((fun x v => Host.reduceAdd x v reducesTo_S19x19_S19_d0 h_S_) : (⟨S19x19, .f32⟩ : BufTy).Contents (Elt F) → (⟨S_, .f32⟩ : BufTy).Contents (Elt F) → (⟨S19, .f32⟩ : BufTy).Contents (Elt F)),
  StableHlo.binary main_v29 main_v26 main_v30 (subf : (⟨S19, .f32⟩ : BufTy).Contents (Elt F) → (⟨S19, .f32⟩ : BufTy).Contents (Elt F) → (⟨S19, .f32⟩ : BufTy).Contents (Elt F)),
  StableHlo.binary main_v26 main_v28 main_v31 (addf : (⟨S19, .f32⟩ : BufTy).Contents (Elt F) → (⟨S19, .f32⟩ : BufTy).Contents (Elt F) → (⟨S19, .f32⟩ : BufTy).Contents (Elt F)),
  StableHlo.binary main_v31 main_v30 main_v32 (addf : (⟨S19, .f32⟩ : BufTy).Contents (Elt F) → (⟨S19, .f32⟩ : BufTy).Contents (Elt F) → (⟨S19, .f32⟩ : BufTy).Contents (Elt F)),
  StableHlo.nullary main_cst_9 (constant S_ .f32 0x26901D7D#32),
  StableHlo.unary main_cst_9 main_v33 (broadcastInDim S19 ![] bcast_S_S19 : (⟨S_, .f32⟩ : BufTy).Contents (Elt F) → (⟨S19, .f32⟩ : BufTy).Contents (Elt F)),
  StableHlo.binary main_v32 main_v33 main_v34 (addf : (⟨S19, .f32⟩ : BufTy).Contents (Elt F) → (⟨S19, .f32⟩ : BufTy).Contents (Elt F) → (⟨S19, .f32⟩ : BufTy).Contents (Elt F)),
  StableHlo.binary main_v26 main_v34 main_v35 (Host.divf : (⟨S19, .f32⟩ : BufTy).Contents (Elt F) → (⟨S19, .f32⟩ : BufTy).Contents (Elt F) → (⟨S19, .f32⟩ : BufTy).Contents (Elt F)),
  StableHlo.nullary main_cst_10 (constant S_ .f32 0x00000000#32),
  StableHlo.binary main_v35 main_cst_10 main_v36 ((fun x v => Host.reduceAdd x v reducesTo_S19_S_d0 h_S_) : (⟨S19, .f32⟩ : BufTy).Contents (Elt F) → (⟨S_, .f32⟩ : BufTy).Contents (Elt F) → (⟨S_, .f32⟩ : BufTy).Contents (Elt F)),
  StableHlo.nullary main_cst_11 (constant S_ .f32 0x41980000#32),
  StableHlo.binary main_v36 main_cst_11 main_v37 (Host.divf : (⟨S_, .f32⟩ : BufTy).Contents (Elt F) → (⟨S_, .f32⟩ : BufTy).Contents (Elt F) → (⟨S_, .f32⟩ : BufTy).Contents (Elt F))]

/-- From the mean ratio to the loss. -/
def opsC : List (HloOp τ sig (Elt F)) := [
  StableHlo.nullary main_cst_12 (constant S_ .f32 0x00000000#32),
  StableHlo.binary main_cst_12 main_v37 main_v38 (mulf : (⟨S_, .f32⟩ : BufTy).Contents (Elt F) → (⟨S_, .f32⟩ : BufTy).Contents (Elt F) → (⟨S_, .f32⟩ : BufTy).Contents (Elt F)),
  StableHlo.nullary main_cst_13 (constant S_ .f32 0x3F800000#32),
  StableHlo.binary main_cst_13 main_v38 main_v39 (addf : (⟨S_, .f32⟩ : BufTy).Contents (Elt F) → (⟨S_, .f32⟩ : BufTy).Contents (Elt F) → (⟨S_, .f32⟩ : BufTy).Contents (Elt F))]

/-- All of them. -/
def ops : List (HloOp τ sig (Elt F)) := opsA ++ (opsK ++ (opsB ++ opsC))

theorem main_eq (c : Dev nD) : main (F := F) c = StableHlo.seq ops := by
  rfl

variable (V : Valuation τ sig (Elt F))

theorem after_join (l₁ l₂ : List (HloOp τ sig (Elt F))) : StableHlo.after (l₁ ++ l₂) V = StableHlo.after l₂ (StableHlo.after l₁ V) := by
  induction l₁ generalizing V with
  | nil => rfl
  | cons op l ih => exact ih _

/-- The class the reference gives each pixel: `argmax` over the classes. -/
def amax (x : FVec F S8x19x512x512 .f32) : IVec S8x512x512 32 :=
  bestAt x (iotaInDim S8x19x512x512 32 1) (constant S_ .f32 0xFF800000#32) (constantI S_ 32 0#32)

/-- An index read as numpy reads one: from the end when negative. -/
def wrap (v : IVec S2097152 32) : IVec S2097152 32 :=
  select (cmpi .slt v (broadcastInDim S2097152 ![] bcast_S_S2097152 (constantI S_ 32 0#32)))
    (addi v (broadcastInDim S2097152 ![] bcast_S_S2097152 (constantI S_ 32 19#32))) v

/-- The matrix of counts from the classes and labels: a one scattered for each pixel. -/
def scatterOnes (a y : IVec S2097152 32) : IVec S19x19 32 :=
  Host.scatter scatter_S19x19_S2097152x2_S2097152_n_01_01_1 IntOp.addi (broadcastInDim S19x19 ![] bcast_S_S19x19 (constantI S_ 32 0#32))
    (cat (broadcastInDim S2097152x1 ![0] bcast_S2097152_S2097152x1_0 (wrap a)) (broadcastInDim S2097152x1 ![0] bcast_S2097152_S2097152x1_0 (wrap y)))
    (broadcastInDim S2097152 ![] bcast_S_S2097152 (constantI S_ 32 1#32))

/-- The matrix of counts as the reference makes it from the arguments. -/
def counts (x : FVec F S8x19x512x512 .f32) (y : IVec S8x512x512 32) : IVec S19x19 32 :=
  scatterOnes (shapeCast S2097152 (amax x) shapeCasts_S8x512x512_S2097152) (shapeCast S2097152 y shapeCasts_S8x512x512_S2097152)

theorem bestAt_result (W : Valuation τ sig (Elt F)) :
    (StableHlo.quaternary main_arg0 main_call0_v0 main_call0_cst main_call0_c main_v0 bestAt).result W (Proc.devRef .tc main_v0)
      = bestAt (W (Proc.devRef .tc main_arg0)) (W (Proc.devRef .tc main_call0_v0)) (W (Proc.devRef .tc main_call0_cst)) (W (Proc.devRef .tc main_call0_c)) := by
  rw [StableHlo.quaternary_result]

theorem opsA_best : StableHlo.after (opsA.take 5) V (Proc.devRef .tc main_v0) = amax (V (Proc.devRef .tc main_arg0)) := by
  unfold opsA amax
  simp only [List.take_succ_cons, List.take_zero, StableHlo.after_cons, StableHlo.after_nil]
  rw [bestAt_result, StableHlo.quaternary_result_ne _ _ _ _ _ _ _ _ _ _ _ _ (show main_arg0 ≠ main_call0_v1_0 by decide),
    StableHlo.quaternary_result_ne _ _ _ _ _ _ _ _ _ _ _ _ (show main_call0_v0 ≠ main_call0_v1_0 by decide),
    StableHlo.quaternary_result_ne _ _ _ _ _ _ _ _ _ _ _ _ (show main_call0_cst ≠ main_call0_v1_0 by decide),
    StableHlo.quaternary_result_ne _ _ _ _ _ _ _ _ _ _ _ _ (show main_call0_c ≠ main_call0_v1_0 by decide)]
  rw [StableHlo.nullary_result, StableHlo.nullary_result_ne _ _ _ _ (show main_call0_cst ≠ main_call0_c by decide), StableHlo.nullary_result,
    StableHlo.nullary_result_ne _ _ _ _ (show main_call0_v0 ≠ main_call0_c by decide),
    StableHlo.nullary_result_ne _ _ _ _ (show main_call0_v0 ≠ main_call0_cst by decide), StableHlo.nullary_result,
    StableHlo.nullary_result_ne _ _ _ _ (show main_arg0 ≠ main_call0_c by decide),
    StableHlo.nullary_result_ne _ _ _ _ (show main_arg0 ≠ main_call0_cst by decide),
    StableHlo.nullary_result_ne _ _ _ _ (show main_arg0 ≠ main_call0_v0 by decide)]

theorem opsA_class : StableHlo.after opsA V (Proc.devRef .tc main_v1)
    = shapeCast S2097152 (amax (V (Proc.devRef .tc main_arg0))) shapeCasts_S8x512x512_S2097152 := by
  rw [show (opsA (F := F)) = opsA.take 5 ++ opsA.drop 5 from (List.take_append_drop 5 opsA).symm, after_join, ← opsA_best]
  generalize StableHlo.after (List.take 5 opsA) V = W
  unfold opsA
  simp only [List.drop_succ_cons, List.drop_zero, StableHlo.after_cons, StableHlo.after_nil]
  rw [StableHlo.reshape_result_ne _ _ _ _ _ _ _ (show main_v1 ≠ main_v2 by decide), StableHlo.reshape_result]
  rfl

theorem opsA_label : StableHlo.after opsA V (Proc.devRef .tc main_v2)
    = shapeCast S2097152 (V (Proc.devRef .tc main_arg1)) shapeCasts_S8x512x512_S2097152 := by
  unfold opsA
  after_results_simp
  rfl

theorem opsK_counts : StableHlo.after opsK V (Proc.devRef .tc main_v18) = scatterOnes (V (Proc.devRef .tc main_v1)) (V (Proc.devRef .tc main_v2)) := by
  unfold opsK scatterOnes wrap
  after_results_simp

theorem opsC_loss : StableHlo.after opsC V (Proc.devRef .tc main_v39)
    = addf (constant S_ .f32 0x3F800000#32) (mulf (constant S_ .f32 0x00000000#32) (V (Proc.devRef .tc main_v37))) := by
  unfold opsC
  after_results_simp

theorem opsB_keep : StableHlo.after opsB V (Proc.devRef .tc main_v18) = V (Proc.devRef .tc main_v18) := by
  unfold opsB
  after_results_simp

theorem opsC_keep : StableHlo.after opsC V (Proc.devRef .tc main_v18) = V (Proc.devRef .tc main_v18) := by
  unfold opsC
  after_results_simp

theorem ops_counts : StableHlo.after ops V (Proc.devRef .tc main_v18) = counts (V (Proc.devRef .tc main_arg0)) (V (Proc.devRef .tc main_arg1)) := by
  rw [ops, after_join, after_join, after_join, opsC_keep, opsB_keep, opsK_counts, opsA_class, opsA_label, counts]

/-- The pattern of one, read exactly. -/
theorem one_bits : Ideal.ofBits .f32 0x3F800000#32 = (1 : EReal) := by
  simp [Ideal.ofBits, Ideal.ieee]
  rw [← EReal.coe_mul]
  norm_num

/-- Under exact arithmetic the loss is one: what it adds to one is multiplied by zero. -/
theorem ops_loss (V : Valuation τ sig (Elt Ideal)) : StableHlo.after ops V (Proc.devRef .tc main_v39) = fun _ => (1 : EReal) := by
  rw [ops, after_join, after_join, after_join, opsC_loss]
  funext i
  show Ideal.ofBits .f32 0x3F800000#32 + Ideal.ofBits .f32 0x00000000#32 * _ = (1 : EReal)
  rw [Idealize.ShloMosaic.Ideal.ofBits_zero_f32, zero_mul, add_zero, one_bits]

theorem ops_arg0 : StableHlo.after ops V (Proc.devRef .tc main_arg0) = V (Proc.devRef .tc main_arg0) := by
  rw [ops, after_join, after_join, after_join]
  unfold opsA opsK opsB opsC
  after_results_simp

theorem ops_arg1 : StableHlo.after ops V (Proc.devRef .tc main_arg1) = V (Proc.devRef .tc main_arg1) := by
  rw [ops, after_join, after_join, after_join]
  unfold opsA opsK opsB opsC
  after_results_simp

theorem ops_sub : (ops (F := F)).Forall fun op => op.bufs ⊆ StableHlo.tcRefs τ sig := by
  unfold ops
  rw [List.forall_append, List.forall_append, List.forall_append]
  unfold opsA opsK opsB opsC
  simp only [List.Forall, StableHlo.nullary_bufs_sub, StableHlo.unary_bufs_sub, StableHlo.binary_bufs_sub, StableHlo.ternary_bufs_sub, StableHlo.quaternary_bufs_sub,
    StableHlo.reshape_bufs_sub, and_self]

theorem ops_fresh : ∀ op ∈ (ops (F := F)), op.fresh = ∅ := by
  intro op h
  rcases List.mem_append.mp h with h | h
  · unfold opsA at h; fin_cases h <;> rfl
  · rcases List.mem_append.mp h with h | h
    · unfold opsK at h; fin_cases h <;> rfl
    · rcases List.mem_append.mp h with h | h
      · unfold opsB at h; fin_cases h <;> rfl
      · unfold opsC at h; fin_cases h <;> rfl

/-- The reference runs, and each of its buffers ends at what the operations leave there. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = StableHlo.after ops (StableHlo.launchContents m c) (Proc.devRef .tc b) :=
  StableHlo.run_seq (by decide) (by decide) defs main (fun _ => ops) main_eq (fun _ => ops_sub) m ρ (fun _ => ops_fresh)

end Cert.Proof.Ref
end
-- ==== Proof.Claims.lean ====
/-
  The claims about single programs: each runs, leaves its arguments and ends with every counter at zero. The kernel's run
  (`Main.run_main`) is over any float operations, so that of the program as printed and that of its ideal reading
  are one theorem.
-/
module
public import proofs.«01_k».proof.Proof.Main
public import proofs.«01_k».proof.Proof.Reference
public import proofs.«01_k».proof.Proof.Gen.Kernel

@[expose] public section
noncomputable section

namespace Cert.Proof.Claims

open Idealize.ShloMosaic Idealize.SL.Sem
open Cert.Proof.Regions Cert.Proof.Main

/-! ## The precondition: every label is one of the 19 classes -/

/-- The precondition's one stated side condition. -/
instance preFacts : Cert.Pre_labels_in_range.Facts where
  bcast_S_S8x512x512 := by decide

/-- A pair of comparisons that both hold bounds a word. -/
theorem word_lt (v : BitVec 32) (e : IntOp.andi (IntOp.cmpi .sge v 0#32) (IntOp.cmpi .slt v 19#32) = 1#1) : v.toNat < 19 := by
  have hand (p q : Bool) (h : IntOp.andi (BitVec.ofBool p) (BitVec.ofBool q) = 1#1) : p = true ∧ q = true := by
    revert h; cases p <;> cases q <;> decide
  obtain ⟨h0, h1⟩ := hand _ _ e
  simp only [BitVec.sle_eq_decide, BitVec.slt_eq_decide, decide_eq_true_eq, BitVec.toInt_eq_toNat_cond, BitVec.toNat_ofNat] at h0 h1
  omega

/-- The precondition, read at every label. -/
theorem labels_lt {F : FTy → Type} [FloatOps F] (x : FVec F Cert.Pre_labels_in_range.S8x19x512x512 .f32) (y : IVec Cert.Pre_labels_in_range.S8x512x512 32)
    (h : Cert.Pre_labels_in_range.fn x y = fun _ => 1#1) (i : Cert.Pre_labels_in_range.S8x512x512.Idx) : (y i).toNat < 19 :=
  word_lt (y i) (congrFun h i)

/-! ## The kernel's arguments at its end -/

variable {F : FTy → Type} [FloatOps F] (m : (ℓ : Loc Cert.KernelIdeal.nD Cert.KernelIdeal.τ Cert.KernelIdeal.sig) → Buf (Elt F) ℓ)

theorem Vend_arg0 (c : Dev Cert.KernelIdeal.nD) : Vend m c (Proc.devRef .tc Cert.KernelIdeal.main_arg0) = argX m c := by
  unfold Vend hostOps
  after_results_simp
  rw [V3_ne m c _ (by decide), V2_ne m c _ (by decide), V1_ne m c _ (by decide)]

theorem Vend_arg1 (c : Dev Cert.KernelIdeal.nD) : Vend m c (Proc.devRef .tc Cert.KernelIdeal.main_arg1) = argY m c := by
  unfold Vend hostOps
  after_results_simp
  rw [V3_ne m c _ (by decide), V2_ne m c _ (by decide), V1_ne m c _ (by decide)]

theorem mem_uc (r : Ref Cert.KernelIdeal.sig .tc) (h : (Proc.devRef (τ := Cert.KernelIdeal.τ) .tc r).isScoped = false) : (Proc.devRef .tc r : DevRef Cert.KernelIdeal.τ Cert.KernelIdeal.sig) ∈ ucRefs :=
  Finset.mem_filter.mpr ⟨StableHlo.devRef_mem_tcRefs r, by rw [h]; exact Bool.false_ne_true⟩

/-- The kernel's run, read at its arguments and its counters. -/
theorem frame_any [∀ e, Nonempty (Elt F e)] (ρ : Dev Cert.KernelIdeal.nD → PrngReg) (hpre : ∀ d i, (argY m d i).toNat < 19) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c =>
    ⟨(h.1 c _ (mem_uc Cert.KernelIdeal.main_arg0 rfl)).trans (Vend_arg0 m c), (h.1 c _ (mem_uc Cert.KernelIdeal.main_arg1 rfl)).trans (Vend_arg1 m c)⟩, h.2⟩)
    (run_main m ρ hpre)

/-! ## The three frames -/

/-- The kernel as printed and its ideal reading are one program text: the bodies of their kernels agree, -/
theorem defs₀_eq : Cert.Kernel.defs₀ (F := F) = Cert.KernelIdeal.defs₀ := by
  funext p ℓ a
  match p, ℓ, a with
  | .tc, 0, (t, s) => rfl
  | .tc, 1, a => rfl
  | .tc, 2, (t, s) => rfl
  | .scScalar c, 0, a => rfl
  | .scScalar c, 1, a => rfl
  | .scScalar c, 2, a => rfl
  | .scVector c s, 0, a => rfl
  | .scVector c s, 1, a => rfl
  | .scVector c s, 2, a => rfl

/-- and so do the pipelines and the SparseCore call built on them. -/
theorem defs_eq : Cert.Kernel.defs (F := F) = Cert.KernelIdeal.defs := by
  unfold Cert.Kernel.defs Cert.KernelIdeal.defs
  rw [← defs₀_eq]
  rfl

/-- The kernel as printed. -/
theorem frame_P : Cert.quiescent_Kernel := fun m ρ hp => by
  have h := frame_any (F := Bits) m ρ fun d i => labels_lt _ _ (hp d) i
  rw [← defs_eq] at h
  exact h

/-- Its ideal reading. -/
theorem frame_PI : Cert.quiescent_KernelIdeal := fun m ρ hp => frame_any (F := Ideal) m ρ fun d i => labels_lt _ _ (hp d) i

/-- The reference's ideal reading. -/
theorem frame_RI : Cert.quiescent_ReferenceIdeal := fun m ρ _ =>
  (θ_run Cert.ReferenceIdeal.defs _ _).mono (fun r h => ⟨fun c => ⟨(h c Cert.ReferenceIdeal.main_arg0).trans (Ref.ops_arg0 _), (h c Cert.ReferenceIdeal.main_arg1).trans (Ref.ops_arg1 _)⟩,
    sem_eq_zero_of_no_sems (by decide) r.2⟩) (Ref.run_main (F := Ideal) m ρ)

end Cert.Proof.Claims
end
-- ==== Proof.Counts.lean ====
/-
  The tables of the SparseCore call, summed over tiles and lanes: entry `k` is the number of pixels whose packed
  word is `16 k`.
-/
module
public import proofs.«01_k».proof.Proof.Hist

@[expose] public section
noncomputable section

namespace Cert.Proof.Counts

open Cert.KernelIdeal
open Idealize.ShloMosaic
open Cert.Proof.Hist

/-- A sum over `a * b` numbers, taken `b` at a time. -/
theorem sum_blocks {M : Type} [AddCommMonoid M] (a b : ℕ) (f : ℕ → M) :
    ∑ n ∈ Finset.range (a * b), f n = ∑ i ∈ Finset.range a, ∑ j ∈ Finset.range b, f (b * i + j) := by
  induction a with
  | zero => simp
  | succ a ih => rw [Nat.add_one_mul, Finset.sum_range_add, ih, Finset.sum_range_succ, Nat.mul_comm a b]

/-- One pixel's word falls, over the sixteen lanes and the four copies, on bin `k` once if it is bin `k`'s and not at all otherwise. -/
theorem once (n a l s k : ℕ) (ha : a < 384) (hl : l < 16) (hs : s < 4) (hk : k < 384) (hn : n = 16 * a + l + 6144 * s) :
    ∑ t ∈ Finset.range 16, (((if n = 16 * k + t then (1 : BitVec 32) else 0) + (if n = 6144 + 16 * k + t then 1 else 0))
      + ((if n = 12288 + 16 * k + t then 1 else 0) + (if n = 18432 + 16 * k + t then 1 else 0)))
      = if a = k then 1 else 0 := by
  by_cases h : a = k
  · rw [if_pos h, Finset.sum_eq_single l]
    · interval_cases s
      · rw [if_pos (by omega), if_neg (by omega), if_neg (by omega), if_neg (by omega)]; rfl
      · rw [if_neg (by omega), if_pos (by omega), if_neg (by omega), if_neg (by omega)]; rfl
      · rw [if_neg (by omega), if_neg (by omega), if_pos (by omega), if_neg (by omega)]; rfl
      · rw [if_neg (by omega), if_neg (by omega), if_neg (by omega), if_pos (by omega)]; rfl
    · intro t ht hne
      have := Finset.mem_range.mp ht
      rw [if_neg (by omega), if_neg (by omega), if_neg (by omega), if_neg (by omega)]; rfl
    · intro h'; exact absurd (Finset.mem_range.mpr hl) h'
  · rw [if_neg h]
    refine Finset.sum_eq_zero fun t ht => ?_
    have := Finset.mem_range.mp ht
    rw [if_neg (by omega), if_neg (by omega), if_neg (by omega), if_neg (by omega)]; rfl

/-- Every word of the block is sixteen times a bin of the table. -/
def Words (A : IVec S128x512 32) : Prop := ∀ i, ∃ a, a < 384 ∧ (A i).toNat = 16 * a

/-- The number of pixels of a block whose word is `16 k`. -/
def cnt (A : IVec S128x512 32) (k : ℕ) : BitVec 32 :=
  ∑ r ∈ Finset.range 128, ∑ c ∈ Finset.range 512, if (A (rc r c)).toNat = 16 * k then 1 else 0

/-- The position that lane `x` of chunk `j` names, as a number. -/
theorem chunk_toNat (A : IVec S128x512 32) (hA : Words A) (r j : ℕ) (x : Fin 16) :
    (chunk A r j (lane x)).toNat = (A (rc r (16 * j + x.val))).toNat + x.val + 6144 * (j % 4) := by
  obtain ⟨a, ha, he⟩ := hA (rc r (16 * j + x.val))
  have hx := x.isLt
  have hl : ((lane x) 0).val = x.val := rfl
  unfold chunk
  rw [BitVec.toNat_add, BitVec.toNat_add, BitVec.toNat_ofNat, BitVec.toNat_ofNat, hl, he]
  omega

/-- The folded table of a block, summed over the lanes of a bin, counts the bin's pixels. -/
theorem sum_fold (A : IVec S128x512 32) (hA : Words A) (k : ℕ) (hk : k < 384) :
    ∑ l ∈ Finset.range 16, foldOf (hist A 128) k l = cnt A k := by
  have hp (n : ℕ) (hn : n < 24576) : hist A 128 (pos n) = ∑ r ∈ Finset.range 128, ∑ j ∈ Finset.range 32, ∑ x : Fin 16,
      if (chunk A r j (lane x)).toNat = n then (1 : BitVec 32) else 0 := by
    have : ((pos n) 0).val = n := Nat.mod_eq_of_lt hn
    unfold hist rowLands lands
    rw [this]
  have hrow : ∑ l ∈ Finset.range 16, foldOf (hist A 128) k l
      = ∑ l ∈ Finset.range 16, ∑ r ∈ Finset.range 128, ∑ j ∈ Finset.range 32, ∑ x : Fin 16,
        (((if (chunk A r j (lane x)).toNat = 16 * k + l then (1 : BitVec 32) else 0) + (if (chunk A r j (lane x)).toNat = 6144 + 16 * k + l then 1 else 0))
          + ((if (chunk A r j (lane x)).toNat = 12288 + 16 * k + l then 1 else 0) + (if (chunk A r j (lane x)).toNat = 18432 + 16 * k + l then 1 else 0))) := by
    refine Finset.sum_congr rfl fun l hl => ?_
    have := Finset.mem_range.mp hl
    unfold foldOf
    rw [hp _ (by omega), hp _ (by omega), hp _ (by omega), hp _ (by omega)]
    simp only [Finset.sum_add_distrib]
  rw [hrow, Finset.sum_comm]
  unfold cnt
  refine Finset.sum_congr rfl fun r _ => ?_
  rw [Finset.sum_comm, show 512 = 32 * 16 from rfl, sum_blocks]
  refine Finset.sum_congr rfl fun j _ => ?_
  rw [Finset.sum_comm, ← Fin.sum_univ_eq_sum_range (fun t => if (A (rc r (16 * j + t))).toNat = 16 * k then (1 : BitVec 32) else 0) 16]
  refine Finset.sum_congr rfl fun x _ => ?_
  obtain ⟨a, ha, he⟩ := hA (rc r (16 * j + x.val))
  rw [once _ a x.val (j % 4) k ha x.isLt (Nat.mod_lt _ (by decide)) hk (by rw [chunk_toNat A hA, he]), he]
  exact if_congr (by omega) rfl rfl

/-! ## All thirty-two blocks -/

/-- The pixel of number `n`: image, row, column. -/
abbrev px (n : ℕ) : S8x512x512.Idx := fun a => match a with
  | 0 => (⟨n / 262144 % 8, Nat.mod_lt _ (by decide)⟩ : Fin 8)
  | 1 => (⟨n / 512 % 512, Nat.mod_lt _ (by decide)⟩ : Fin 512)
  | 2 => (⟨n % 512, Nat.mod_lt _ (by decide)⟩ : Fin 512)

/-- The number of pixels whose word is `16 k`. -/
def count (B : IVec S8x512x512 32) (k : ℕ) : BitVec 32 := ∑ n ∈ Finset.range 2097152, if (B (px n)).toNat = 16 * k then 1 else 0

/-- Row `r`, column `c` of block `w` is pixel `65536 w + 512 r + c`. -/
theorem block_px (B : IVec S8x512x512 32) (w r c : ℕ) (hw : w < 32) (hr : r < 128) (hc : c < 512) :
    block B w (rc r c) = B (px (65536 * w + (512 * r + c))) := by
  unfold block
  congr 1
  funext a
  fin_cases a <;> apply Fin.ext
  · show w / 4 % 8 = (65536 * w + (512 * r + c)) / 262144 % 8; omega
  · show (128 * (w % 4) + r % 128) % 512 = (65536 * w + (512 * r + c)) / 512 % 512; omega
  · show c % 512 % 512 = (65536 * w + (512 * r + c)) % 512; omega

/-- The tables' sums over the blocks count the pixels of all images. -/
theorem sum_cnt (B : IVec S8x512x512 32) (k : ℕ) : ∑ w ∈ Finset.range 32, cnt (block B w) k = count B k := by
  unfold count cnt
  rw [show 2097152 = 32 * 65536 from rfl, sum_blocks]
  refine Finset.sum_congr rfl fun w hw => ?_
  rw [show 65536 = 128 * 512 from rfl, sum_blocks]
  refine Finset.sum_congr rfl fun r hr => Finset.sum_congr rfl fun c hc => ?_
  rw [block_px B w r c (Finset.mem_range.mp hw) (Finset.mem_range.mp hr) (Finset.mem_range.mp hc)]

/-- Word `n` of the tables, row by row. -/
abbrev at2 (n : ℕ) : S1536x128.Idx := fun a => match a with
  | 0 => (⟨n / 128 % 1536, Nat.mod_lt _ (by decide)⟩ : Fin 1536)
  | 1 => (⟨n % 128, Nat.mod_lt _ (by decide)⟩ : Fin 128)

theorem tables_at (B : IVec S8x512x512 32) (w k l : ℕ) (hw : w < 32) (hk : k < 384) (hl : l < 16) :
    tables B (at2 (6144 * w + (16 * k + l))) = foldOf (hist (block B w) 128) k l := by
  have h0 : (6144 * w + (16 * k + l)) / 128 % 1536 / 48 = w := by omega
  have h1 : (6144 * w + (16 * k + l)) / 128 % 1536 % 48 = k / 8 := by omega
  have h2 : (6144 * w + (16 * k + l)) % 128 % 128 = 16 * (k % 8) + l := by omega
  unfold tables table
  show foldOf (hist (block B ((6144 * w + (16 * k + l)) / 128 % 1536 / 48)) 128) (8 * ((6144 * w + (16 * k + l)) / 128 % 1536 % 48) + (6144 * w + (16 * k + l)) % 128 % 128 / 16)
    ((6144 * w + (16 * k + l)) % 128 % 128 % 16) = _
  rw [h0, h1, h2, show 8 * (k / 8) + (16 * (k % 8) + l) / 16 = k by omega, show (16 * (k % 8) + l) % 16 = l by omega]

/-- The tables summed over tiles and lanes count the pixels. -/
theorem sum_tables (B : IVec S8x512x512 32) (hB : ∀ i, ∃ a, a < 384 ∧ (B i).toNat = 16 * a) (k : ℕ) (hk : k < 384) :
    ∑ w ∈ Finset.range 32, ∑ l ∈ Finset.range 16, tables B (at2 (6144 * w + (16 * k + l))) = count B k := by
  rw [← sum_cnt]
  refine Finset.sum_congr rfl fun w hw => ?_
  rw [← sum_fold (block B w) (fun i => hB _) k hk]
  exact Finset.sum_congr rfl fun l hl => tables_at B w k l (Finset.mem_range.mp hw) hk (Finset.mem_range.mp hl)

end Cert.Proof.Counts
end
-- ==== Proof.Scatter.lean ====
/-
  The reference's matrix of counts, entry by entry: the number of pixels whose class and label are the entry's row
  and column.
-/
module
public import proofs.«01_k».proof.Proof.Reference
public import proofs.«01_k».proof.Proof.Counts
public import Idealize.ShloMosaic.Lib.Routing.OpsPair
public import Idealize.ShloMosaic.Lib.Routing.Ops
public import Idealize.ShloMosaic.Lib.Pipeline.ValueKit

@[expose] public section
noncomputable section

namespace Cert.Proof.Scatter

open Cert.ReferenceIdeal Cert.ReferenceIdeal.Gen
open Idealize.ShloMosaic Idealize.ShloMosaic.ValueIdx Idealize.ShloMosaic.Routing

/-! ## Where one update lands -/

/-- With one pair of index words to each update, in the rows of an `N × 2` matrix, component `q` of update `k` is read in row `k`, column `q`. -/
theorem pair_at {R C N : ℕ} (d : ScatterDims (shape2 R C) (shape2 N 2) (shape1 N)) (hiw : d.insertedWindowDims = [0, 1])
    (hsd : d.scatterDimsToOperandDims = [0, 1]) (hivd : d.indexVectorDim = 1) (k : Fin N) (q : Fin 2)
    (hq : d.scatterDimsToOperandDims.idxOf q < d.scatterDimsToOperandDims.length) :
    d.siIdx (ValueIdx.ix1 k) ⟨d.scatterDimsToOperandDims.idxOf q, hq⟩ = ValueIdx.ix2 k q := by
  funext b
  apply Fin.ext
  unfold ScatterDims.siIdx
  match b with
  | ⟨0, _⟩ =>
    rw [dif_neg (by rw [hivd]; exact Nat.zero_ne_one)]
    unfold ScatterDims.siCoord
    rw [Fin.val_cast]
    exact congrArg (fun a => ((ValueIdx.ix1 k : (shape1 N).Idx) a).val) (Subsingleton.elim (α := Fin 1) _ 0)
  | ⟨1, _⟩ =>
    rw [dif_pos (by rw [hivd])]
    show d.scatterDimsToOperandDims.idxOf q = q.val
    rw [hsd]
    fin_cases q <;> rfl

/-- Update `k` lands on entry `(r, c)` when its two index words are `r` and `c`. -/
theorem lands_at {R C N : ℕ} (d : ScatterDims (shape2 R C) (shape2 N 2) (shape1 N)) (hiw : d.insertedWindowDims = [0, 1])
    (hsd : d.scatterDimsToOperandDims = [0, 1]) (hivd : d.indexVectorDim = 1) (idx : IVec (shape2 N 2) 32) (k : Fin N) (r : Fin R) (c : Fin C) :
    d.resultIdx? (ValueIdx.ix1 k) idx = some (ValueIdx.ix2 r c) ↔ (idx (ValueIdx.ix2 k (0 : Fin 2))).toInt = r.val ∧ (idx (ValueIdx.ix2 k (1 : Fin 2))).toInt = c.val := by
  have hm (q : Fin 2) : q ∈ d.scatterDimsToOperandDims := by rw [hsd]; fin_cases q <;> simp
  have hw (q : Fin 2) : d.window (ValueIdx.ix1 k) q = 0 := by
    unfold ScatterDims.window
    rw [dif_neg fun h => (of_decide_eq_true (List.mem_filter.1 h).2) (by rw [hiw]; fin_cases q <;> simp)]
  have hst (q : Fin 2) : d.start (ValueIdx.ix1 k) idx q = (idx (ValueIdx.ix2 k q)).toInt := by
    unfold ScatterDims.start
    rw [dif_pos (hm q), pair_at d hiw hsd hivd]
  rw [resultIdx?_ix2, hw, hw, hst, hst]
  simp

/-! ## A scatter of ones -/

/-- Adding one for each member of a list that has a property. -/
theorem fold_ones {β : Type} (p : β → Prop) [DecidablePred p] (l : List β) (a : BitVec 32) :
    l.foldl (fun a n => if p n then IntOp.addi a 1#32 else a) a = a + (l.map fun n => if p n then (1 : BitVec 32) else 0).sum := by
  induction l generalizing a with
  | nil => simp
  | cons x l ih =>
    rw [List.foldl_cons, ih, List.map_cons, List.sum_cons, ← BitVec.add_assoc]
    congr 1
    split
    · rfl
    · exact (BitVec.add_zero a).symm

/-- A scatter of ones into zeros counts the updates that land on an entry. -/
theorem ones_at {R C N : ℕ} (d : ScatterDims (shape2 R C) (shape2 N 2) (shape1 N)) (hiw : d.insertedWindowDims = [0, 1])
    (hsd : d.scatterDimsToOperandDims = [0, 1]) (hivd : d.indexVectorDim = 1) (x0 : IVec (shape2 R C) 32) (idx : IVec (shape2 N 2) 32)
    (upd : IVec (shape1 N) 32) (h0 : ∀ i, x0 i = 0#32) (h1 : ∀ i, upd i = 1#32) (r : Fin R) (c : Fin C) :
    Host.scatter d IntOp.addi x0 idx upd (ValueIdx.ix2 r c)
      = ∑ k : Fin N, if (idx (ValueIdx.ix2 k (0 : Fin 2))).toInt = r.val ∧ (idx (ValueIdx.ix2 k (1 : Fin 2))).toInt = c.val then (1 : BitVec 32) else 0 := by
  rw [scatter_at, h0]
  simp only [h1]
  rw [fold_ones, show (0#32 : BitVec 32) + _ = _ from BitVec.zero_add _, ← Fin.sum_univ_def]
  refine Fintype.sum_equiv (finCongr (numel1 N)) _ _ fun n => ?_
  rw [symm1]
  exact if_congr (lands_at d hiw hsd hivd idx _ r c) rfl rfl

/-! ## The reference's scatter -/

theorem cat_left (a b : IVec S2097152x1 32) (k : Fin 2097152) : Ref.cat a b (ValueIdx.ix2 k (0 : Fin 2)) = a (ValueIdx.ix2 k (0 : Fin 1)) := by
  unfold Ref.cat
  refine concatenate_unit_eq 1 _ _ _ _ rfl (concatAt_cons _ _ _ _ ?_ (concatAt_cons _ _ _ _ ?_ (concatAt_nil _ _ _ _)))
  · intro _ hr i h1 h0
    refine congrArg a (funext fun c => Fin.ext ?_)
    match c with
    | ⟨0, _⟩ => exact h0 0 (by decide)
    | ⟨1, _⟩ => exact h1
  · intro h; exact absurd (show _ = _ from h) (show (0 : ℕ) ≠ 0 + 1 by decide)

theorem cat_right (a b : IVec S2097152x1 32) (k : Fin 2097152) : Ref.cat a b (ValueIdx.ix2 k (1 : Fin 2)) = b (ValueIdx.ix2 k (0 : Fin 1)) := by
  unfold Ref.cat
  refine concatenate_unit_eq 1 _ _ _ _ rfl (concatAt_cons _ _ _ _ ?_ (concatAt_cons _ _ _ _ ?_ (concatAt_nil _ _ _ _)))
  · intro h; exact absurd (show _ = _ from h) (show (1 : ℕ) ≠ 0 by decide)
  · intro _ hr i h1 h0
    refine congrArg b (funext fun c => Fin.ext ?_)
    match c with
    | ⟨0, _⟩ => exact h0 0 (by decide)
    | ⟨1, _⟩ => exact h1

theorem column_at (v : IVec S2097152 32) (k : Fin 2097152) :
    broadcastInDim S2097152x1 ![0] bcast_S2097152_S2097152x1_0 v (ValueIdx.ix2 k (0 : Fin 1)) = v (ValueIdx.ix1 k) := by
  unfold broadcastInDim
  refine congrArg v (funext fun c => Fin.ext ?_)
  match c with
  | ⟨0, _⟩ => rfl

/-- An index that is not negative is read as it is. -/
theorem wrap_at (v : IVec S2097152 32) (k : Fin 2097152) (h : (v (ValueIdx.ix1 k)).toNat < 19) : Ref.wrap v (ValueIdx.ix1 k) = v (ValueIdx.ix1 k) :=
  wrap_of_lt (v (ValueIdx.ix1 k)) _ (Nat.lt_of_lt_of_le h (by decide))

theorem toInt_small (v : BitVec 32) (h : v.toNat < 19) (i : ℕ) : v.toInt = (i : ℤ) ↔ v.toNat = i := by
  rw [BitVec.toInt_eq_toNat_of_lt (by omega)]; omega

/-- Entry `(i, j)` of the scatter of ones is the number of pixels of class `i` and label `j`. -/
theorem scatterOnes_at (a y : IVec S2097152 32) (ha : ∀ k, (a (ValueIdx.ix1 k)).toNat < 19) (hy : ∀ k, (y (ValueIdx.ix1 k)).toNat < 19) (i j : Fin 19) :
    Ref.scatterOnes a y (ValueIdx.ix2 i j)
      = ∑ k : Fin 2097152, if (a (ValueIdx.ix1 k)).toNat = i.val ∧ (y (ValueIdx.ix1 k)).toNat = j.val then (1 : BitVec 32) else 0 := by
  unfold Ref.scatterOnes
  refine (ones_at scatter_S19x19_S2097152x2_S2097152_n_01_01_1 rfl rfl rfl _ _ _ (fun _ => rfl) (fun _ => rfl) i j).trans ?_
  refine Finset.sum_congr rfl fun k _ => if_congr ?_ rfl rfl
  rw [cat_left, cat_right, column_at, column_at, wrap_at a k (ha k), wrap_at y k (hy k), toInt_small _ (ha k), toInt_small _ (hy k)]

/-- Place `n` of a flattened array of pixels is pixel `n`. -/
theorem flat_at (z : IVec S8x512x512 32) (k : Fin 2097152) :
    shapeCast S2097152 z shapeCasts_S8x512x512_S2097152 (ValueIdx.ix1 k) = z (Counts.px k.val) := by
  have := k.isLt
  refine shapeCast_apply z shapeCasts_S8x512x512_S2097152 _ _ ?_
  rw [Shape.rowMajor_val_three, Shape.rowMajor_val_one]
  show ((k.val / 262144 % 8) * 512 + k.val / 512 % 512) * 512 + k.val % 512 = k.val
  omega

/-- Entry `(i, j)` of the reference's counts. -/
theorem counts_at (x : FVec Ideal S8x19x512x512 .f32) (y : IVec S8x512x512 32) (ha : ∀ p, (Ref.amax x p).toNat < 19) (hy : ∀ p, (y p).toNat < 19)
    (i j : Fin 19) : Ref.counts x y (ValueIdx.ix2 i j)
      = ∑ n ∈ Finset.range 2097152, if (Ref.amax x (Counts.px n)).toNat = i.val ∧ (y (Counts.px n)).toNat = j.val then (1 : BitVec 32) else 0 := by
  unfold Ref.counts
  rw [scatterOnes_at _ _ (fun k => by rw [flat_at]; exact ha _) (fun k => by rw [flat_at]; exact hy _),
    ← Fin.sum_univ_eq_sum_range (fun n => if (Ref.amax x (Counts.px n)).toNat = i.val ∧ (y (Counts.px n)).toNat = j.val then (1 : BitVec 32) else 0)]
  refine Finset.sum_congr rfl fun k _ => ?_
  rw [flat_at, flat_at]

end Cert.Proof.Scatter
end
-- ==== Proof.Fiber.lean ====
/-
  The reference's class of the largest score of a pixel is the kernel's.
-/
module
public import proofs.«01_k».proof.Proof.Reference
public import proofs.«01_k».proof.Proof.Argmax

@[expose] public section
noncomputable section

namespace Cert.Proof.Fiber

open Cert.ReferenceIdeal Cert.ReferenceIdeal.Gen
open Idealize.ShloMosaic Idealize.ShloMosaic.ValueIdx

/-! ## The fold of pairs is the chain of comparisons -/

/-- The first pair: a score against minus infinity. -/
theorem first_pair (v : Ideal .f32) : reducer_argmax_f32_i32 (F := Ideal) (⊥, 0#32) (v, 0#32) = (v, 0#32) := by
  unfold reducer_argmax_f32_i32
  simp [Ideal.cmpf_def, Ideal.cmp, Scalar.select, IntOp.ori, IntOp.andi, IntOp.cmpi]

/-- A later pair: the running maximum and its class against the next class's score. -/
theorem next_pair (m v : Ideal .f32) (k c : BitVec 32) (hk : k.toNat < c.toNat) (hc : c.toNat < 19) :
    reducer_argmax_f32_i32 (F := Ideal) (m, k) (v, c) = Argmax.step (F := Ideal) (m, k) v c := by
  have hlt : k.slt c = true := by
    rw [BitVec.slt, decide_eq_true_eq, BitVec.toInt_eq_toNat_of_lt (by omega), BitVec.toInt_eq_toNat_of_lt (by omega)]; omega
  unfold reducer_argmax_f32_i32 Argmax.step
  rcases lt_trichotomy m v with h | h | h
  · simp [Ideal.cmpf_def, Ideal.cmp, Scalar.select, IntOp.ori, IntOp.andi, IntOp.cmpi, h, h.not_gt, h.ne]
  · subst h
    simp [Ideal.cmpf_def, Ideal.cmp, Scalar.select, IntOp.ori, IntOp.andi, IntOp.cmpi, hlt]
  · simp [Ideal.cmpf_def, Ideal.cmp, Scalar.select, IntOp.ori, IntOp.andi, IntOp.cmpi, h, h.not_gt, h.ne']

/-- The fold over the classes `0 … n`, from minus infinity. -/
theorem fold_run (x : ℕ → Ideal .f32) : ∀ n, n ≤ 18 →
    (List.range (n + 1)).foldl (fun s c => reducer_argmax_f32_i32 (F := Ideal) s (x c, BitVec.ofNat 32 c)) (⊥, 0#32) = Argmax.run x n
  | 0, _ => first_pair (x 0)
  | n + 1, h => by
    rw [List.range_succ, List.foldl_append, fold_run x n (by omega)]
    have hle := Argmax.run_le x n (by omega)
    have hc : (BitVec.ofNat 32 (n + 1)).toNat = n + 1 := by rw [BitVec.toNat_ofNat]; omega
    exact next_pair _ _ _ _ (by rw [hc]; omega) (by rw [hc]; omega)

/-! ## The scores of one pixel, in the order of the fold -/

/-- The scores that fold into pixel `j`: its nineteen classes. -/
abbrev at4 (j : S8x512x512.Idx) (c : Fin 19) : S8x19x512x512.Idx := ix4 (j 0) c (j 1) (j 2)

theorem drop_iff (i : S8x19x512x512.Idx) (j : S8x512x512.Idx) :
    reducesTo_S8x19x512x512_S8x512x512_d1.drop i = j ↔ i = at4 j (i 1) := by
  have e0 := Shape.ReducesTo.drop_apply_val_of_eq reducesTo_S8x19x512x512_S8x512x512_d1 i 0 0
  have e1 := Shape.ReducesTo.drop_apply_val_of_eq reducesTo_S8x19x512x512_S8x512x512_d1 i 1 2
  have e2 := Shape.ReducesTo.drop_apply_val_of_eq reducesTo_S8x19x512x512_S8x512x512_d1 i 2 3
  constructor
  · intro h
    subst h
    funext a
    apply Fin.ext
    match a with
    | ⟨0, _⟩ => exact e0.symm
    | ⟨1, _⟩ => rfl
    | ⟨2, _⟩ => exact e1.symm
    | ⟨3, _⟩ => exact e2.symm
  · intro h
    funext b
    apply Fin.ext
    match b with
    | ⟨0, _⟩ => exact e0.trans (congrArg Fin.val (congrFun h 0))
    | ⟨1, _⟩ => exact e1.trans (congrArg Fin.val (congrFun h 2))
    | ⟨2, _⟩ => exact e2.trans (congrArg Fin.val (congrFun h 3))

theorem at4_lt (j : S8x512x512.Idx) (c d : Fin 19) (h : c < d) : S8x19x512x512.rowMajor (at4 j c) < S8x19x512x512.rowMajor (at4 j d) := by
  rw [Fin.lt_def, Shape.rowMajor_val_four, Shape.rowMajor_val_four]
  show (((j 0).val * 19 + c.val) * 512 + (j 1).val) * 512 + (j 2).val < (((j 0).val * 19 + d.val) * 512 + (j 1).val) * 512 + (j 2).val
  have : c.val < d.val := h
  omega

/-- A fold of pairs over the places that drop to `j`, these listed in order. -/
theorem pairs_listed {α β : Type} {s t u : Shape} {axes : List (Fin s.rank)} (f : α × β → α × β → α × β) (x : s.Idx → α) (y : s.Idx → β)
    (ix : u.Idx → α) (iy : u.Idx → β) (h : s.ReducesTo axes t) (hu : 0 < u.numel) (j : t.Idx) (m : ℕ) (g : Fin m → s.Idx)
    (hd : ∀ i, h.drop i = j ↔ ∃ c, g c = i) (hlt : ∀ c d, c < d → s.rowMajor (g c) < s.rowMajor (g d))
    (a : α) (b : β) (ha : ∀ i, ix i = a) (hb : ∀ i, iy i = b) (X : ℕ → α) (Y : ℕ → β) (hX : ∀ c, x (g c) = X c.val) (hY : ∀ c, y (g c) = Y c.val) :
    Host.reduce2 f x y ix iy h hu j = (List.range m).foldl (fun r c => f r (X c, Y c)) (a, b) := by
  have hL : ((List.finRange s.numel).filter fun n => h.drop (s.rowMajor.symm n) = j) = (List.finRange m).map fun c => s.rowMajor (g c) := by
    have s1 : (List.filter (fun n => decide (h.drop (s.rowMajor.symm n) = j)) (List.finRange s.numel)).Pairwise (· < ·) :=
      (List.pairwise_lt_finRange _).filter _
    have s2 : ((List.finRange m).map fun c => s.rowMajor (g c)).Pairwise (· < ·) :=
      List.pairwise_map.2 ((List.pairwise_lt_finRange m).imp fun e => hlt _ _ e)
    refine List.Perm.eq_of_pairwise (le := (· < ·)) (fun a b _ _ e e' => absurd e (not_lt_of_gt e')) s1 s2 ?_
    rw [List.perm_ext_iff_of_nodup (s1.imp ne_of_lt) (s2.imp ne_of_lt)]
    intro n
    rw [List.mem_filter, List.mem_map, decide_eq_true_eq, hd]
    constructor
    · rintro ⟨-, c, e⟩
      exact ⟨c, List.mem_finRange _, by rw [e, Equiv.apply_symm_apply]⟩
    · rintro ⟨c, -, e⟩
      exact ⟨List.mem_finRange _, c, by rw [← e, Equiv.symm_apply_apply]⟩
  unfold Host.reduce2
  rw [hL, List.foldl_map, ← List.map_coe_finRange_eq_range, List.foldl_map, ha, hb]
  simp only [Equiv.symm_apply_apply, hX, hY]

theorem drop_at (j : S8x512x512.Idx) (i : S8x19x512x512.Idx) :
    reducesTo_S8x19x512x512_S8x512x512_d1.drop i = j ↔ ∃ c, at4 j c = i := by
  rw [drop_iff]
  constructor
  · intro h; exact ⟨i 1, h.symm⟩
  · rintro ⟨c, rfl⟩; rfl

theorem bot_bits : Ideal.ofBits .f32 0xFF800000#32 = ⊥ := by simp [Ideal.ofBits, Ideal.ieee]

theorem const_bot (i : S_.Idx) : constant (F := Ideal) S_ .f32 0xFF800000#32 i = ⊥ := by
  unfold constant
  exact bot_bits

/-- A fold of pairs at a pixel, its classes listed. -/
theorem fold_listed (f : Ideal .f32 × BitVec 32 → Ideal .f32 × BitVec 32 → Ideal .f32 × BitVec 32)
    (x : FVec Ideal S8x19x512x512 .f32) (k : IVec S8x19x512x512 32) (u : FVec Ideal S_ .f32) (v : IVec S_ 32) (j : S8x512x512.Idx)
    (hu : ∀ i, u i = (⊥ : EReal)) (hv : ∀ i, v i = 0#32) (X : ℕ → Ideal .f32) (hX : ∀ c, x (at4 j c) = X c.val) (hk : ∀ c, k (at4 j c) = BitVec.ofNat 32 c.val) :
    Host.reduce2 f x k u v reducesTo_S8x19x512x512_S8x512x512_d1 h_S_ j = (List.range 19).foldl (fun s c => f s (X c, BitVec.ofNat 32 c)) (⊥, 0#32) := by
  have hd := drop_at j
  have hl := at4_lt j
  exact pairs_listed f x k u v _ _ j 19 (at4 j) hd hl ⊥ 0#32 hu hv X (fun c => BitVec.ofNat 32 c) hX hk

theorem bestAt_def (x : FVec Ideal S8x19x512x512 .f32) (k : IVec S8x19x512x512 32) (u : FVec Ideal S_ .f32) (v : IVec S_ 32) :
    Ref.bestAt x k u v = fun j => (Host.argReduce (reducer_argmax_f32_i32 (F := Ideal)) x k u v reducesTo_S8x19x512x512_S8x512x512_d1 h_S_ j).2 := rfl

theorem bestAt_fold (x : FVec Ideal S8x19x512x512 .f32) (k : IVec S8x19x512x512 32) (u : FVec Ideal S_ .f32) (v : IVec S_ 32) :
    Ref.bestAt x k u v = fun j => (Host.reduce2 (reducer_argmax_f32_i32 (F := Ideal)) x k u v reducesTo_S8x19x512x512_S8x512x512_d1 h_S_ j).2 := by
  rw [bestAt_def, Ideal.argReduce_eq_reduce2]

/-- The reference's fold at a pixel, its classes listed. -/
theorem bestAt_listed (x : FVec Ideal S8x19x512x512 .f32) (k : IVec S8x19x512x512 32) (u : FVec Ideal S_ .f32) (v : IVec S_ 32) (j : S8x512x512.Idx)
    (hu : ∀ i, u i = (⊥ : EReal)) (hv : ∀ i, v i = 0#32) (X : ℕ → Ideal .f32) (hX : ∀ c, x (at4 j c) = X c.val) (hk : ∀ c, k (at4 j c) = BitVec.ofNat 32 c.val) :
    Ref.bestAt x k u v j = ((List.range 19).foldl (fun s c => reducer_argmax_f32_i32 (F := Ideal) s (X c, BitVec.ofNat 32 c)) (⊥, 0#32)).2 := by
  rw [bestAt_fold]
  exact congrArg Prod.snd (fold_listed _ x k u v j hu hv X hX hk)

theorem iota_at (j : S8x512x512.Idx) (c : Fin 19) : iotaInDim S8x19x512x512 32 1 (at4 j c) = BitVec.ofNat 32 c.val := rfl

/-- The reference's class of a pixel is the kernel's. -/
theorem amax_at (x : FVec Ideal S8x19x512x512 .f32) (j : S8x512x512.Idx) :
    Ref.amax x j = Argmax.cls fun c => x (ix4 (j 0) (Fin.ofNat 19 c) (j 1) (j 2)) := by
  unfold Ref.amax
  refine (bestAt_listed x _ _ _ j const_bot (fun _ => rfl) (fun c => x (ix4 (j 0) (Fin.ofNat 19 c) (j 1) (j 2))) (fun c => ?_) (iota_at j)).trans ?_
  · rw [Fin.ofNat_val_eq_self]
  · unfold Argmax.cls
    rw [← fold_run _ 18 (Nat.le_refl _)]

end Cert.Proof.Fiber
end
-- ==== Proof.Value.lean ====
/-
  The kernel's two results over the extended reals: the matrix of counts, which is the reference's, and the loss, which
  is one.
-/
module
public import proofs.«01_k».proof.Proof.Main
public import proofs.«01_k».proof.Proof.Counts
public import proofs.«01_k».proof.Proof.Scatter
public import proofs.«01_k».proof.Proof.Fiber

@[expose] public section
noncomputable section

namespace Cert.Proof.Value

open Cert.KernelIdeal Cert.KernelIdeal.Gen
open Idealize.ShloMosaic
open Cert.Proof.Hist Cert.Proof.Regions Cert.Proof.Main Cert.Proof.Bodies

/-! ## The host's sum over tiles and lanes -/

/-- A host sum of words, from zero, is the sum over the places that drop to `j`. -/
theorem reduce_filter {s t u : Shape} {axes : List (Fin s.rank)} (x : IVec s 32) (init : IVec u 32) (h : s.ReducesTo axes t) (hu : 0 < u.numel)
    (h0 : ∀ i, init i = 0#32) (j : t.Idx) :
    Host.reduce IntOp.addi x init h hu j = ∑ i ∈ Finset.univ.filter (fun i => h.drop i = j), x i := by
  rw [Host.reduce_eq_fold, h0]
  induction (Finset.univ.filter fun i => h.drop i = j) using Finset.cons_induction with
  | empty => rfl
  | cons a S ha ih => rw [Finset.fold_cons, Finset.sum_cons, ih]; rfl

/-- The same with those places named. -/
theorem reduce_named {s t u : Shape} {axes : List (Fin s.rank)} (x : IVec s 32) (init : IVec u 32) (h : s.ReducesTo axes t) (hu : 0 < u.numel)
    (h0 : ∀ i, init i = 0#32) (j : t.Idx) {β : Type} [Fintype β] (g : β → s.Idx) (hg : Function.Injective g) (hd : ∀ i, h.drop i = j ↔ ∃ c, g c = i) :
    Host.reduce IntOp.addi x init h hu j = ∑ c : β, x (g c) := by
  rw [reduce_filter x init h hu h0]
  refine (Finset.sum_bij (fun c _ => g c) (fun c _ => ?_) (fun a _ b _ e => hg e) (fun i hi => ?_) (fun _ _ => rfl)).symm
  · exact Finset.mem_filter.mpr ⟨Finset.mem_univ _, (hd _).mpr ⟨c, rfl⟩⟩
  · obtain ⟨c, hc⟩ := (hd i).mp (Finset.mem_filter.mp hi).2
    exact ⟨c, Finset.mem_univ _, hc⟩

/-- Tile `p.1`, bin `q`, lane `p.2`. -/
abbrev at3 (q : Fin 384) (p : Fin 32 × Fin 16) : S32x384x16.Idx := ValueIdx.ix3 p.1 q p.2

theorem at3_inj (q : Fin 384) : Function.Injective (at3 q) := fun a b e =>
  Prod.ext (congrFun e 0) (congrFun e 2)

theorem drop_at (q : Fin 384) (i : S32x384x16.Idx) : reducesTo_S32x384x16_S384_d0_2.drop i = ValueIdx.ix1 q ↔ ∃ p, at3 q p = i := by
  have e := Shape.ReducesTo.drop_apply_val_of_eq reducesTo_S32x384x16_S384_d0_2 i 0 1
  constructor
  · intro h
    refine ⟨(i 0, i 2), funext fun a => Fin.ext ?_⟩
    match a with
    | ⟨0, _⟩ => rfl
    | ⟨1, _⟩ => exact (congrArg Fin.val (congrFun h 0)).symm.trans e
    | ⟨2, _⟩ => rfl
  · rintro ⟨p, rfl⟩
    funext b
    apply Fin.ext
    match b with
    | ⟨0, _⟩ => exact e

theorem reshaped_at (T : IVec S1536x128 32) (q : Fin 384) (p : Fin 32 × Fin 16) :
    shapeCast S32x384x16 T shapeCasts_S1536x128_S32x384x16 (at3 q p) = T (Counts.at2 (6144 * p.1.val + (16 * q.val + p.2.val))) := by
  have h1 := p.1.isLt
  have h2 := p.2.isLt
  have h3 := q.isLt
  refine shapeCast_apply T shapeCasts_S1536x128_S32x384x16 _ _ ?_
  rw [Shape.rowMajor_val_two, Shape.rowMajor_val_three]
  show (6144 * p.1.val + (16 * q.val + p.2.val)) / 128 % 1536 * 128 + (6144 * p.1.val + (16 * q.val + p.2.val)) % 128
    = (p.1.val * 384 + q.val) * 16 + p.2.val
  omega

/-- The matrix the host makes of the tables. -/
def matrix (T : IVec S1536x128 32) : IVec S19x19 32 :=
  shapeCast S19x19 (extractStridedSlice S361 ![0]
    (Host.reduce IntOp.addi (shapeCast S32x384x16 T shapeCasts_S1536x128_S32x384x16) (constantI S_ 32 0#32) reducesTo_S32x384x16_S384_d0_2 h_S_)
    slices_S384_S361_0) shapeCasts_S361_S19x19

theorem summed_at (T : IVec S1536x128 32) (q : Fin 384) :
    Host.reduce IntOp.addi (shapeCast S32x384x16 T shapeCasts_S1536x128_S32x384x16) (constantI S_ 32 0#32) reducesTo_S32x384x16_S384_d0_2 h_S_ (ValueIdx.ix1 q)
      = ∑ w ∈ Finset.range 32, ∑ l ∈ Finset.range 16, T (Counts.at2 (6144 * w + (16 * q.val + l))) := by
  have hd := drop_at q
  have hi := at3_inj q
  refine (reduce_named _ _ _ _ (fun _ => rfl) _ (at3 q) hi hd).trans ?_
  simp only [reshaped_at]
  rw [Fintype.sum_prod_type, ← Fin.sum_univ_eq_sum_range (fun w => ∑ l ∈ Finset.range 16, T (Counts.at2 (6144 * w + (16 * q.val + l)))) 32]
  refine Finset.sum_congr rfl fun w _ => ?_
  rw [← Fin.sum_univ_eq_sum_range (fun l => T (Counts.at2 (6144 * w.val + (16 * q.val + l)))) 16]

theorem matrix_at (T : IVec S1536x128 32) (i j : Fin 19) :
    matrix T (ValueIdx.ix2 i j) = ∑ w ∈ Finset.range 32, ∑ l ∈ Finset.range 16, T (Counts.at2 (6144 * w + (16 * (19 * i.val + j.val) + l))) := by
  have hi := i.isLt
  have hj := j.isLt
  rw [← summed_at T ⟨19 * i.val + j.val, by omega⟩]
  unfold matrix
  refine (shapeCast_apply _ shapeCasts_S361_S19x19 (ValueIdx.ix2 i j) (ValueIdx.ix1 (⟨19 * i.val + j.val, by omega⟩ : Fin 361)) ?_).trans ?_
  · rw [Shape.rowMajor_val_two, Shape.rowMajor_val_one]
    show 19 * i.val + j.val = i.val * 19 + j.val
    omega
  · generalize Host.reduce IntOp.addi (shapeCast S32x384x16 T shapeCasts_S1536x128_S32x384x16) (constantI S_ 32 0#32) reducesTo_S32x384x16_S384_d0_2 h_S_ = R
    refine extractStridedSlice_apply _ R slices_S384_S361_0 _ _ fun a => ?_
    match a with
    | ⟨0, _⟩ => show 19 * i.val + j.val = 0 + (19 * i.val + j.val); omega

/-! ## The counts -/

/-- The kernel's matrix of the tables is the reference's matrix of counts. -/
theorem matrix_counts (x : FVec Ideal S8x19x512x512 .f32) (y : IVec S8x512x512 32) (hy : ∀ i, (y i).toNat < 19) :
    matrix (tables (packed x y)) = Ref.counts x y := by
  have hw (p : S8x512x512.Idx) : (packed x y p).toNat = ((Ref.amax x p).toNat * 19 + (y p).toNat) * 16 := by
    rw [Fiber.amax_at]
    exact Argmax.pack_toNat _ _ (hy p)
  have ha (p : S8x512x512.Idx) : (Ref.amax x p).toNat < 19 := by
    rw [Fiber.amax_at]
    exact Nat.lt_succ_of_le (Argmax.cls_le _)
  have hB (p : S8x512x512.Idx) : ∃ a, a < 384 ∧ (packed x y p).toNat = 16 * a := by
    have h1 := ha p
    have h2 := hy p
    exact ⟨(Ref.amax x p).toNat * 19 + (y p).toNat, by omega, by rw [hw]; omega⟩
  funext k
  rw [ValueIdx.eq_ix2 k]
  generalize k 0 = i
  generalize k 1 = j
  have hi : i.val < 19 := i.isLt
  have hj : j.val < 19 := j.isLt
  refine (matrix_at _ i j).trans ?_
  rw [Counts.sum_tables _ hB _ (by omega)]
  refine Eq.trans ?_ (Scatter.counts_at x y ha hy i j).symm
  unfold Counts.count
  refine Finset.sum_congr rfl fun n _ => if_congr ?_ rfl rfl
  rw [hw]
  have h1 := ha (Counts.px n)
  have h2 := hy (Counts.px n)
  omega

/-! ## The loss -/

/-- The last scalar of the epilogue is one plus zero times something. -/
theorem last_one (a b c : Ideal .f32) : k2_pay1 (F := Ideal) a b c = fun _ => (1 : EReal) := by
  unfold k2_pay1
  funext i
  show Ideal.ofBits .f32 0x3F800000#32 + Ideal.ofBits .f32 0x00000000#32 * _ = (1 : EReal)
  rw [Idealize.ShloMosaic.Ideal.ofBits_zero_f32, zero_mul, add_zero, Ref.one_bits]

theorem epi_one (v : Vec Ideal S1536x128 .i32) : epi (F := Ideal) v = fun _ => (1 : EReal) := by
  unfold epi
  exact last_one _ _ _

/-! ## The buffers at the end -/

variable (m : (ℓ : Loc nD τ sig) → Buf (Elt Ideal) ℓ)

theorem end_counts (c : Dev nD) : Vend m c (Proc.devRef .tc main_v7) = matrix (tables (pk m c)) := by
  rw [← V2_at m c, ← V3_ne m c main_v1 (by decide)]
  unfold Vend hostOps matrix
  after_results_simp
  rfl

theorem end_loss (c : Dev nD) : Vend m c (Proc.devRef .tc main_v5) = fun _ => (1 : EReal) := by
  have h : Vend m c (Proc.devRef .tc main_v5) = shapeCast S_ (V3 m c (Proc.devRef .tc main_v2)) shapeCasts_S1x1_S_ := by
    unfold Vend hostOps
    after_results_simp
    rfl
  rw [h, V3_at, epi_one]
  rfl

end Cert.Proof.Value
end
-- ==== Proof.Algebraic.lean ====
/-
  The value claim: the kernel's ideal reading and the reference's leave the same two results.
-/
module
public import proofs.«01_k».proof.Proof.Claims
public import proofs.«01_k».proof.Proof.Value

@[expose] public section
noncomputable section

namespace Cert.Proof.Claims

open Idealize.ShloMosaic Idealize.SL.Sem
open Cert.Proof.Regions Cert.Proof.Main

/-- From arguments that agree, with labels among the 19 classes, both leave the loss one and the matrix of counts. -/
theorem algebraic : Cert.algebraic_KernelIdeal_ReferenceIdeal := by
  intro m g m' g' hp hm
  have hy (d : Dev Cert.KernelIdeal.nD) (i : Cert.KernelIdeal.S8x512x512.Idx) : (argY m d i).toNat < 19 := labels_lt _ _ (hp d) i
  refine ⟨fun _ => (fun _ => (1 : EReal)), fun c => Ref.counts (argX m c) (argY m c), ?_, ?_⟩
  · refine (θ_run Cert.KernelIdeal.defs _ _).mono (fun r h c => ⟨?_, ?_, ?_, ?_⟩) (Main.run_main (F := Ideal) m g hy)
    · exact (h.1 c _ (mem_uc Cert.KernelIdeal.main_v5 rfl)).trans (Value.end_loss m c)
    · exact (h.1 c _ (mem_uc Cert.KernelIdeal.main_v7 rfl)).trans ((Value.end_counts m c).trans (Value.matrix_counts _ _ (hy c)))
    · exact (h.1 c _ (mem_uc Cert.KernelIdeal.main_arg0 rfl)).trans (Vend_arg0 m c)
    · exact (h.1 c _ (mem_uc Cert.KernelIdeal.main_arg1 rfl)).trans (Vend_arg1 m c)
  · refine (θ_run Cert.ReferenceIdeal.defs _ _).mono (fun r h c => ⟨?_, ?_, ?_, ?_⟩) (Ref.run_main (F := Ideal) m' g')
    · exact (h c Cert.ReferenceIdeal.main_v39).trans (Ref.ops_loss _)
    · refine ((h c Cert.ReferenceIdeal.main_v18).trans (Ref.ops_counts _)).trans ?_
      exact congrArg₂ Ref.counts (hm c).1 (hm c).2
    · exact (h c Cert.ReferenceIdeal.main_arg0).trans (Ref.ops_arg0 _)
    · exact (h c Cert.ReferenceIdeal.main_arg1).trans (Ref.ops_arg1 _)

end Cert.Proof.Claims
end
-- ==== Proof.lean ====
/-
  The claim: the kernel as printed, its ideal reading and the reference's each run and leave their arguments, the
  ideal reading is the printed program's, and the two ideal readings leave the same results.
-/
module

public import proofs.«01_k».proof.Defs
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Claims.preFacts,
    Claims.frame_P, Claims.frame_PI, Claims.frame_RI, trivial, Claims.algebraic⟩

end Cert.Proof

end
